-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)
      ∧ m' ((c.tc : Thread Cert.MlpReferenceIdeal.nD Cert.MlpReferenceIdeal.τ).loc Cert.MlpReferenceIdeal.main_arg10) = m ((c.tc : Thread Cert.MlpIdeal.nD Cert.MlpIdeal.τ).loc Cert.MlpIdeal.main_arg10)
      ∧ m' ((c.tc : Thread Cert.MlpReferenceIdeal.nD Cert.MlpReferenceIdeal.τ).loc Cert.MlpReferenceIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v10_0)) (v1 : (c : Dev Cert.MlpIdeal.nD) → Buf (Elt Ideal) ((c.tc : Thread Cert.MlpIdeal.nD Cert.MlpIdeal.τ).loc Cert.MlpIdeal.main_v10_1)) (v2 : (c : Dev Cert.MlpIdeal.nD) → Buf (Elt Ideal) ((c.tc : Thread Cert.MlpIdeal.nD Cert.MlpIdeal.τ).loc Cert.MlpIdeal.main_v10_2)) (v3 : (c : Dev Cert.MlpIdeal.nD) → Buf (Elt Ideal) ((c.tc : Thread Cert.MlpIdeal.nD Cert.MlpIdeal.τ).loc Cert.MlpIdeal.main_v10_3)) (v4 : (c : Dev Cert.MlpIdeal.nD) → Buf (Elt Ideal) ((c.tc : Thread Cert.MlpIdeal.nD Cert.MlpIdeal.τ).loc Cert.MlpIdeal.main_v10_4)) (v5 : (c : Dev Cert.MlpIdeal.nD) → Buf (Elt Ideal) ((c.tc : Thread Cert.MlpIdeal.nD Cert.MlpIdeal.τ).loc Cert.MlpIdeal.main_v10_5)) (v6 : (c : Dev Cert.MlpIdeal.nD) → Buf (Elt Ideal) ((c.tc : Thread Cert.MlpIdeal.nD Cert.MlpIdeal.τ).loc Cert.MlpIdeal.main_v10_6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10_0) = v0 c
          ∧ r.2.mem ((c.tc : Thread Cert.MlpIdeal.nD Cert.MlpIdeal.τ).loc Cert.MlpIdeal.main_v10_1) = v1 c
          ∧ r.2.mem ((c.tc : Thread Cert.MlpIdeal.nD Cert.MlpIdeal.τ).loc Cert.MlpIdeal.main_v10_2) = v2 c
          ∧ r.2.mem ((c.tc : Thread Cert.MlpIdeal.nD Cert.MlpIdeal.τ).loc Cert.MlpIdeal.main_v10_3) = v3 c
          ∧ r.2.mem ((c.tc : Thread Cert.MlpIdeal.nD Cert.MlpIdeal.τ).loc Cert.MlpIdeal.main_v10_4) = v4 c
          ∧ r.2.mem ((c.tc : Thread Cert.MlpIdeal.nD Cert.MlpIdeal.τ).loc Cert.MlpIdeal.main_v10_5) = v5 c
          ∧ r.2.mem ((c.tc : Thread Cert.MlpIdeal.nD Cert.MlpIdeal.τ).loc Cert.MlpIdeal.main_v10_6) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v10_0) = v0 c
          ∧ r.2.mem ((c.tc : Thread Cert.MlpReferenceIdeal.nD Cert.MlpReferenceIdeal.τ).loc Cert.MlpReferenceIdeal.main_v10_1) = v1 c
          ∧ r.2.mem ((c.tc : Thread Cert.MlpReferenceIdeal.nD Cert.MlpReferenceIdeal.τ).loc Cert.MlpReferenceIdeal.main_v10_2) = v2 c
          ∧ r.2.mem ((c.tc : Thread Cert.MlpReferenceIdeal.nD Cert.MlpReferenceIdeal.τ).loc Cert.MlpReferenceIdeal.main_v10_3) = v3 c
          ∧ r.2.mem ((c.tc : Thread Cert.MlpReferenceIdeal.nD Cert.MlpReferenceIdeal.τ).loc Cert.MlpReferenceIdeal.main_v10_4) = v4 c
          ∧ r.2.mem ((c.tc : Thread Cert.MlpReferenceIdeal.nD Cert.MlpReferenceIdeal.τ).loc Cert.MlpReferenceIdeal.main_v10_5) = v5 c
          ∧ r.2.mem ((c.tc : Thread Cert.MlpReferenceIdeal.nD Cert.MlpReferenceIdeal.τ).loc Cert.MlpReferenceIdeal.main_v10_6) = v6 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v12_0)) (v1 : (c : Dev Cert.QkvIdeal.nD) → Buf (Elt Ideal) ((c.tc : Thread Cert.QkvIdeal.nD Cert.QkvIdeal.τ).loc Cert.QkvIdeal.main_v12_1)) (v2 : (c : Dev Cert.QkvIdeal.nD) → Buf (Elt Ideal) ((c.tc : Thread Cert.QkvIdeal.nD Cert.QkvIdeal.τ).loc Cert.QkvIdeal.main_v12_2)) (v3 : (c : Dev Cert.QkvIdeal.nD) → Buf (Elt Ideal) ((c.tc : Thread Cert.QkvIdeal.nD Cert.QkvIdeal.τ).loc Cert.QkvIdeal.main_v12_3)) (v4 : (c : Dev Cert.QkvIdeal.nD) → Buf (Elt Ideal) ((c.tc : Thread Cert.QkvIdeal.nD Cert.QkvIdeal.τ).loc Cert.QkvIdeal.main_v12_4)) (v5 : (c : Dev Cert.QkvIdeal.nD) → Buf (Elt Ideal) ((c.tc : Thread Cert.QkvIdeal.nD Cert.QkvIdeal.τ).loc Cert.QkvIdeal.main_v12_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v12_0) = v0 c
          ∧ r.2.mem ((c.tc : Thread Cert.QkvIdeal.nD Cert.QkvIdeal.τ).loc Cert.QkvIdeal.main_v12_1) = v1 c
          ∧ r.2.mem ((c.tc : Thread Cert.QkvIdeal.nD Cert.QkvIdeal.τ).loc Cert.QkvIdeal.main_v12_2) = v2 c
          ∧ r.2.mem ((c.tc : Thread Cert.QkvIdeal.nD Cert.QkvIdeal.τ).loc Cert.QkvIdeal.main_v12_3) = v3 c
          ∧ r.2.mem ((c.tc : Thread Cert.QkvIdeal.nD Cert.QkvIdeal.τ).loc Cert.QkvIdeal.main_v12_4) = v4 c
          ∧ r.2.mem ((c.tc : Thread Cert.QkvIdeal.nD Cert.QkvIdeal.τ).loc Cert.QkvIdeal.main_v12_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v9_0) = v0 c
          ∧ r.2.mem ((c.tc : Thread Cert.QkvReferenceIdeal.nD Cert.QkvReferenceIdeal.τ).loc Cert.QkvReferenceIdeal.main_v9_1) = v1 c
          ∧ r.2.mem ((c.tc : Thread Cert.QkvReferenceIdeal.nD Cert.QkvReferenceIdeal.τ).loc Cert.QkvReferenceIdeal.main_v9_2) = v2 c
          ∧ r.2.mem ((c.tc : Thread Cert.QkvReferenceIdeal.nD Cert.QkvReferenceIdeal.τ).loc Cert.QkvReferenceIdeal.main_v9_3) = v3 c
          ∧ r.2.mem ((c.tc : Thread Cert.QkvReferenceIdeal.nD Cert.QkvReferenceIdeal.τ).loc Cert.QkvReferenceIdeal.main_v9_4) = v4 c
          ∧ r.2.mem ((c.tc : Thread Cert.QkvReferenceIdeal.nD Cert.QkvReferenceIdeal.τ).loc Cert.QkvReferenceIdeal.main_v9_5) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6))

def Claim : Prop :=
  ∃ (hMlp : Cert.Mlp.Facts) (hMlpIdeal : Cert.MlpIdeal.Facts) (hMlpReferenceIdeal : Cert.MlpReferenceIdeal.Facts) (hQkv : Cert.Qkv.Facts) (hQkvIdeal : Cert.QkvIdeal.Facts) (hQkvReferenceIdeal : Cert.QkvReferenceIdeal.Facts),
    quiescent_Mlp (hMlp := hMlp)
    ∧ quiescent_MlpIdeal (hMlpIdeal := hMlpIdeal)
    ∧ quiescent_MlpReferenceIdeal (hMlpReferenceIdeal := hMlpReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Mlp_MlpIdeal
    ∧ algebraic_MlpIdeal_MlpReferenceIdeal (hMlpIdeal := hMlpIdeal) (hMlpReferenceIdeal := hMlpReferenceIdeal)
    ∧ preserves_Qkv_QkvIdeal
    ∧ algebraic_QkvIdeal_QkvReferenceIdeal (hQkvIdeal := hQkvIdeal) (hQkvReferenceIdeal := hQkvReferenceIdeal)
-- ==== Mlp.lean ====
abbrev S128x100x1280 : Shape := ⟨3, ![128, 100, 1280]⟩
abbrev S128x6x1280 : Shape := ⟨3, ![128, 6, 1280]⟩
abbrev S20x64x1280 : Shape := ⟨3, ![20, 64, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S100x128x1280 : Shape := ⟨3, ![100, 128, 1280]⟩
abbrev S6x128x1280 : Shape := ⟨3, ![6, 128, 1280]⟩
abbrev S1280x1280 : Shape := ⟨2, ![1280, 1280]⟩
abbrev S1x1280 : Shape := ⟨2, ![1, 1280]⟩
abbrev S1x5120 : Shape := ⟨2, ![1, 5120]⟩
abbrev S100x128 : Shape := ⟨2, ![100, 128]⟩
abbrev S100x128x5120 : Shape := ⟨3, ![100, 128, 5120]⟩
abbrev S1x128x1280 : Shape := ⟨3, ![1, 128, 1280]⟩
abbrev S1x128x5120 : Shape := ⟨3, ![1, 128, 5120]⟩
abbrev S128x5120 : Shape := ⟨2, ![128, 5120]⟩
abbrev S128x1280 : Shape := ⟨2, ![128, 1280]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 29
  | .vmem => 26
  | .smem => 0
  | _ => 0

abbrev bufTy : (tb : Table) → Fin (tcTables nBuf tb) → BufTy
  | .hbm, ⟨0, _⟩ => ⟨S128x100x1280, .bf16⟩
  | .hbm, ⟨1, _⟩ => ⟨S128x6x1280, .f32⟩
  | .hbm, ⟨2, _⟩ => ⟨S128x100x1280, .f32⟩
  | .hbm, ⟨3, _⟩ => ⟨S20x64x1280, .fp8e4m3⟩
  | .hbm, ⟨4, _⟩ => ⟨S1280, .f32⟩
  | .hbm, ⟨5, _⟩ => ⟨S1280, .f32⟩
  | .hbm, ⟨6, _⟩ => ⟨S1280x5120, .fp8e4m3⟩
  | .hbm, ⟨7, _⟩ => ⟨S5120, .f32⟩
  | .hbm, ⟨8, _⟩ => ⟨S5120, .f32⟩
  | .hbm, ⟨9, _⟩ => ⟨S5120x1280, .fp8e4m3⟩
  | .hbm, ⟨10, _⟩ => ⟨S1280, .f32⟩
  | .hbm, ⟨11, _⟩ => ⟨S1280, .f32⟩
  | .hbm, ⟨12, _⟩ => ⟨S100x128x1280, .bf16⟩
  | .hbm, ⟨13, _⟩ => ⟨S6x128x1280, .f32⟩
  | .hbm, ⟨14, _⟩ => ⟨S100x128x1280, .f32⟩
  | .hbm, ⟨15, _⟩ => ⟨S1280x1280, .fp8e4m3⟩
  | .hbm, ⟨16, _⟩ => ⟨S1x1280, .f32⟩
  | .hbm, ⟨17, _⟩ => ⟨S1x1280, .f32⟩
  | .hbm, ⟨18, _⟩ => ⟨S1x5120, .f32⟩
  | .hbm, ⟨19, _⟩ => ⟨S1x5120, .f32⟩
  | .hbm, ⟨20, _⟩ => ⟨S1x1280, .f32⟩
  | .hbm, ⟨21, _⟩ => ⟨S1x1280, .f32⟩
  | .hbm, ⟨22, _⟩ => ⟨S100x128x1280, .bf16⟩
  | .hbm, ⟨23, _⟩ => ⟨S100x128x1280, .fp8e4m3⟩
  | .hbm, ⟨24, _⟩ => ⟨S100x128, .f32⟩
  | .hbm, ⟨25, _⟩ => ⟨S100x128x1280, .fp8e4m3⟩
  | .hbm, ⟨26, _⟩ => ⟨S100x128, .f32⟩
  | .hbm, ⟨27, _⟩ => ⟨S100x128x5120, .fp8e4m3⟩
  | .hbm, ⟨28, _⟩ => ⟨S100x128, .f32⟩
  | .local _ .vmem, ⟨0, _⟩ => ⟨S1x128x1280, .f32⟩
  | .local _ .vmem, ⟨1, _⟩ => ⟨S1x128x1280, .f32⟩
  | .local _ .vmem, ⟨2, _⟩ => ⟨S1x128x1280, .bf16⟩
  | .local _ .vmem, ⟨3, _⟩ => ⟨S1x128x1280, .bf16⟩
  | .local _ .vmem, ⟨4, _⟩ => ⟨S6x128x1280, .f32⟩
  | .local _ .vmem, ⟨5, _⟩ => ⟨S1280x1280, .fp8e4m3⟩
  | .local _ .vmem, ⟨6, _⟩ => ⟨S1x1280, .f32⟩
  | .local _ .vmem, ⟨7, _⟩ => ⟨S1x1280, .f32⟩
  | .local _ .vmem, ⟨8, _⟩ => ⟨S1280x5120, .fp8e4m3⟩
  | .local _ .vmem, ⟨9, _⟩ => ⟨S1x5120, .f32⟩
  | .local _ .vmem, ⟨10, _⟩ => ⟨S1x5120, .f32⟩
  | .local _ .vmem, ⟨11, _⟩ => ⟨S5120x1280, .fp8e4m3⟩
  | .local _ .vmem, ⟨12, _⟩ => ⟨S1x1280, .f32⟩
  | .local _ .vmem, ⟨13, _⟩ => ⟨S1x1280, .f32⟩
  | .local _ .vmem, ⟨14, _⟩ => ⟨S1x128x1280, .bf16⟩
  | .local _ .vmem, ⟨15, _⟩ => ⟨S1x128x1280, .bf16⟩
  | .local _ .vmem, ⟨16, _⟩ => ⟨S1x128x1280, .fp8e4m3⟩
  | .local _ .vmem, ⟨17, _⟩ => ⟨S1x128x1280, .fp8e4m3⟩
  | .local _ .vmem, ⟨18, _⟩ => ⟨S100x128, .f32⟩
  | .local _ .vmem, ⟨19, _⟩ => ⟨S1x128x1280, .fp8e4m3⟩
  | .local _ .vmem, ⟨20, _⟩ => ⟨S1x128x1280, .fp8e4m3⟩
  | .local _ .vmem, ⟨21, _⟩ => ⟨S100x128, .f32⟩
  | .local _ .vmem, ⟨22, _⟩ => ⟨S1x128x5120, .fp8e4m3⟩
  | .local _ .vmem, ⟨23, _⟩ => ⟨S1x128x5120, .fp8e4m3⟩
  | .local _ .vmem, ⟨24, _⟩ => ⟨S100x128, .f32⟩
  | .local _ .vmem, ⟨25, _⟩ => ⟨S128x5120, .f32⟩
  | _, _ => ⟨S128x100x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem17_0 : DmaSem sig := 22
abbrev cc0_sem17_1 : DmaSem sig := 23
abbrev cc0_sem18_0 : DmaSem sig := 24

abbrev nD : Nat := 1
abbrev τ : Topo := Topo.v7x

variable {F : FTy → Type} [FloatOps F]

abbrev grid0 : Pipeline.Grid := ⟨1, ![100], ![false]⟩

def k0_off1 (i : grid0.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v29 : Index := Scalar.indexCast v1
  let c0_11 : Index := 0#32
  ![v29.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5120x1280 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1280 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S100x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x128x1280 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S100x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x128x5120 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S100x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MlpReferenceIdeal.lean ====
abbrev S128x100x1280 : Shape := ⟨3, ![128, 100, 1280]⟩
abbrev S128x6x1280 : Shape := ⟨3, ![128, 6, 1280]⟩
abbrev S20x64x1280 : Shape := ⟨3, ![20, 64, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S100x128x1280 : Shape := ⟨3, ![100, 128, 1280]⟩
abbrev S6x128x1280 : Shape := ⟨3, ![6, 128, 1280]⟩
abbrev S1280x1280 : Shape := ⟨2, ![1280, 1280]⟩
abbrev S1x1x1280 : Shape := ⟨3, ![1, 1, 1280]⟩
abbrev S1x1x5120 : Shape := ⟨3, ![1, 1, 5120]⟩
abbrev S100x128 : Shape := ⟨2, ![100, 128]⟩
abbrev S100x128x5120 : Shape := ⟨3, ![100, 128, 5120]⟩
abbrev S1x128x1280 : Shape := ⟨3, ![1, 128, 1280]⟩
abbrev S128x1280 : Shape := ⟨2, ![128, 1280]⟩
abbrev S100x128x1 : Shape := ⟨3, ![100, 128, 1]⟩
abbrev S12800x1280 : Shape := ⟨2, ![12800, 1280]⟩
abbrev S12800x5120 : Shape := ⟨2, ![12800, 5120]⟩

abbrev nBuf : Space → Nat
  | .hbm => 29
  | .vmem => 19
  | .smem => 0
  | _ => 0

abbrev bufTy : (tb : Table) → Fin (tcTables nBuf tb) → BufTy
  | .hbm, ⟨0, _⟩ => ⟨S128x100x1280, .bf16⟩
  | .hbm, ⟨1, _⟩ => ⟨S128x6x1280, .f32⟩
  | .hbm, ⟨2, _⟩ => ⟨S128x100x1280, .f32⟩
  | .hbm, ⟨3, _⟩ => ⟨S20x64x1280, .fp8e4m3⟩
  | .hbm, ⟨4, _⟩ => ⟨S1280, .f32⟩
  | .hbm, ⟨5, _⟩ => ⟨S1280, .f32⟩
  | .hbm, ⟨6, _⟩ => ⟨S1280x5120, .fp8e4m3⟩
  | .hbm, ⟨7, _⟩ => ⟨S5120, .f32⟩
  | .hbm, ⟨8, _⟩ => ⟨S5120, .f32⟩
  | .hbm, ⟨9, _⟩ => ⟨S5120x1280, .fp8e4m3⟩
  | .hbm, ⟨10, _⟩ => ⟨S1280, .f32⟩
  | .hbm, ⟨11, _⟩ => ⟨S1280, .f32⟩
  | .hbm, ⟨12, _⟩ => ⟨S100x128x1280, .f32⟩
  | .hbm, ⟨13, _⟩ => ⟨S100x128x1280, .bf16⟩
  | .hbm, ⟨14, _⟩ => ⟨S6x128x1280, .f32⟩
  | .hbm, ⟨15, _⟩ => ⟨S1280x1280, .fp8e4m3⟩
  | .hbm, ⟨16, _⟩ => ⟨S1x1x1280, .f32⟩
  | .hbm, ⟨17, _⟩ => ⟨S1x1x1280, .f32⟩
  | .hbm, ⟨18, _⟩ => ⟨S1x1x5120, .f32⟩
  | .hbm, ⟨19, _⟩ => ⟨S1x1x5120, .f32⟩
  | .hbm, ⟨20, _⟩ => ⟨S1x1x1280, .f32⟩
  | .hbm, ⟨21, _⟩ => ⟨S1x1x1280, .f32⟩
  | .hbm, ⟨22, _⟩ => ⟨S100x128x1280, .bf16⟩
  | .hbm, ⟨23, _⟩ => ⟨S100x128x1280, .fp8e4m3⟩
  | .hbm, ⟨24, _⟩ => ⟨S100x128, .f32⟩
  | .hbm, ⟨25, _⟩ => ⟨S100x128x1280, .fp8e4m3⟩
  | .hbm, ⟨26, _⟩ => ⟨S100x128, .f32⟩
  | .hbm, ⟨27, _⟩ => ⟨S100x128x5120, .fp8e4m3⟩
  | .hbm, ⟨28, _⟩ => ⟨S100x128, .f32⟩
  | .local _ .vmem, ⟨0, _⟩ => ⟨S100x128x1280, .f32⟩
  | .local _ .vmem, ⟨1, _⟩ => ⟨S100x128x1280, .bf16⟩
  | .local _ .vmem, ⟨2, _⟩ => ⟨S6x128x1280, .f32⟩
  | .local _ .vmem, ⟨3, _⟩ => ⟨S1280x1280, .fp8e4m3⟩
  | .local _ .vmem, ⟨4, _⟩ => ⟨S1x1x1280, .f32⟩
  | .local _ .vmem, ⟨5, _⟩ => ⟨S1x1x1280, .f32⟩
  | .local _ .vmem, ⟨6, _⟩ => ⟨S1280x5120, .fp8e4m3⟩
  | .local _ .vmem, ⟨7, _⟩ => ⟨S1x1x5120, .f32⟩
  | .local _ .vmem, ⟨8, _⟩ => ⟨S1x1x5120, .f32⟩
  | .local _ .vmem, ⟨9, _⟩ => ⟨S5120x1280, .fp8e4m3⟩
  | .local _ .vmem, ⟨10, _⟩ => ⟨S1x1x1280, .f32⟩
  | .local _ .vmem, ⟨11, _⟩ => ⟨S1x1x1280, .f32⟩
  | .local _ .vmem, ⟨12, _⟩ => ⟨S100x128x1280, .bf16⟩
  | .local _ .vmem, ⟨13, _⟩ => ⟨S100x128x1280, .fp8e4m3⟩
  | .local _ .vmem, ⟨14, _⟩ => ⟨S100x128, .f32⟩
  | .local _ .vmem, ⟨15, _⟩ => ⟨S100x128x1280, .fp8e4m3⟩
  | .local _ .vmem, ⟨16, _⟩ => ⟨S100x128, .f32⟩
  | .local _ .vmem, ⟨17, _⟩ => ⟨S100x128x5120, .fp8e4m3⟩
  | .local _ .vmem, ⟨18, _⟩ => ⟨S100x128, .f32⟩
  | _, _ => ⟨S128x100x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S100x128x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x128x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x128x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120x1280 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S100x128x1280 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S100x128x1280 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S100x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S100x128x1280 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S100x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S100x128x5120 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S100x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Qkv.lean ====
abbrev S128x100x1280 : Shape := ⟨3, ![128, 100, 1280]⟩
abbrev S128x6x1280 : Shape := ⟨3, ![128, 6, 1280]⟩
abbrev S1280x3840 : Shape := ⟨2, ![1280, 3840]⟩
abbrev S3840 : Shape := ⟨1, ![3840]⟩
abbrev S1280 : Shape := ⟨1, ![1280]⟩
abbrev S20 : Shape := ⟨1, ![20]⟩
abbrev S100x128x1280 : Shape := ⟨3, ![100, 128, 1280]⟩
abbrev S6x128x1280 : Shape := ⟨3, ![6, 128, 1280]⟩
abbrev S3840x1280 : Shape := ⟨2, ![3840, 1280]⟩
abbrev S3840x1 : Shape := ⟨2, ![3840, 1]⟩
abbrev S3840x128 : Shape := ⟨2, ![3840, 128]⟩
abbrev S1280x1 : Shape := ⟨2, ![1280, 1]⟩
abbrev S1280x128 : Shape := ⟨2, ![1280, 128]⟩
abbrev S_ : Shape := ⟨0, ![]⟩
abbrev S100x128 : Shape := ⟨2, ![100, 128]⟩
abbrev S100x1280x128 : Shape := ⟨3, ![100, 1280, 128]⟩
abbrev S20x100x128 : Shape := ⟨3, ![20, 100, 128]⟩
abbrev S1x128x1280 : Shape := ⟨3, ![1, 128, 1280]⟩
abbrev S1x1280x128 : Shape := ⟨3, ![1, 1280, 128]⟩
abbrev S128x1280 : Shape := ⟨2, ![128, 1280]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S64x128 : Shape := ⟨2, ![64, 128]⟩
abbrev S1 : Shape := ⟨1, ![1]⟩
abbrev S1x64x128 : Shape := ⟨3, ![1, 64, 128]⟩
abbrev S1x1x128 : Shape := ⟨3, ![1, 1, 128]⟩

abbrev nBuf : Space → Nat
  | .hbm => 26
  | .vmem => 19
  | .smem => 1
  | _ => 0

abbrev bufTy : (tb : Table) → Fin (tcTables nBuf tb) → BufTy
  | .hbm, ⟨0, _⟩ => ⟨S128x100x1280, .bf16⟩
  | .hbm, ⟨1, _⟩ => ⟨S128x6x1280, .f32⟩
  | .hbm, ⟨2, _⟩ => ⟨S1280x3840, .fp8e4m3⟩
  | .hbm, ⟨3, _⟩ => ⟨S3840, .f32⟩
  | .hbm, ⟨4, _⟩ => ⟨S1280, .f32⟩
  | .hbm, ⟨5, _⟩ => ⟨S1280, .f32⟩
  | .hbm, ⟨6, _⟩ => ⟨S20, .f32⟩
  | .hbm, ⟨7, _⟩ => ⟨S100x128x1280, .bf16⟩
  | .hbm, ⟨8, _⟩ => ⟨S6x128x1280, .f32⟩
  | .hbm, ⟨9, _⟩ => ⟨S3840x1280, .fp8e4m3⟩
  | .hbm, ⟨10, _⟩ => ⟨S3840x1, .f32⟩
  | .hbm, ⟨11, _⟩ => ⟨S3840x128, .f32⟩
  | .hbm, ⟨12, _⟩ => ⟨S1280x1, .f32⟩
  | .hbm, ⟨13, _⟩ => ⟨S1280x128, .f32⟩
  | .hbm, ⟨14, _⟩ => ⟨S1280x1, .f32⟩
  | .hbm, ⟨15, _⟩ => ⟨S1280x128, .f32⟩
  | .hbm, ⟨16, _⟩ => ⟨S_, .f32⟩
  | .hbm, ⟨17, _⟩ => ⟨S20, .f32⟩
  | .hbm, ⟨18, _⟩ => ⟨S20, .f32⟩
  | .hbm, ⟨19, _⟩ => ⟨S20, .f32⟩
  | .hbm, ⟨20, _⟩ => ⟨S100x128x1280, .fp8e4m3⟩
  | .hbm, ⟨21, _⟩ => ⟨S100x128, .f32⟩
  | .hbm, ⟨22, _⟩ => ⟨S100x1280x128, .i8⟩
  | .hbm, ⟨23, _⟩ => ⟨S100x1280x128, .i8⟩
  | .hbm, ⟨24, _⟩ => ⟨S20x100x128, .f32⟩
  | .hbm, ⟨25, _⟩ => ⟨S100x1280x128, .bf16⟩
  | .local _ .vmem, ⟨0, _⟩ => ⟨S1x128x1280, .bf16⟩
  | .local _ .vmem, ⟨1, _⟩ => ⟨S1x128x1280, .bf16⟩
  | .local _ .vmem, ⟨2, _⟩ => ⟨S1x128x1280, .f32⟩
  | .local _ .vmem, ⟨3, _⟩ => ⟨S1x128x1280, .f32⟩
  | .local _ .vmem, ⟨4, _⟩ => ⟨S3840x1280, .fp8e4m3⟩
  | .local _ .vmem, ⟨5, _⟩ => ⟨S3840x128, .f32⟩
  | .local _ .vmem, ⟨6, _⟩ => ⟨S1280x128, .f32⟩
  | .local _ .vmem, ⟨7, _⟩ => ⟨S1280x128, .f32⟩
  | .local _ .vmem, ⟨8, _⟩ => ⟨S1x128x1280, .fp8e4m3⟩
  | .local _ .vmem, ⟨9, _⟩ => ⟨S1x128x1280, .fp8e4m3⟩
  | .local _ .vmem, ⟨10, _⟩ => ⟨S100x128, .f32⟩
  | .local _ .vmem, ⟨11, _⟩ => ⟨S1x1280x128, .i8⟩
  | .local _ .vmem, ⟨12, _⟩ => ⟨S1x1280x128, .i8⟩
  | .local _ .vmem, ⟨13, _⟩ => ⟨S1x1280x128, .i8⟩
  | .local _ .vmem, ⟨14, _⟩ => ⟨S1x1280x128, .i8⟩
  | .local _ .vmem, ⟨15, _⟩ => ⟨S20x100x128, .f32⟩
  | .local _ .vmem, ⟨16, _⟩ => ⟨S1x1280x128, .bf16⟩
  | .local _ .vmem, ⟨17, _⟩ => ⟨S1x1280x128, .bf16⟩
  | .local _ .vmem, ⟨18, _⟩ => ⟨S3840x128, .f32⟩
  | .local _ .smem, ⟨0, _⟩ => ⟨S20, .f32⟩
  | _, _ => ⟨S128x100x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![100], ![false]⟩

def k0_off1 (i : grid0.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v56 : Index := Scalar.indexCast v1
  let c0_24 : Index := 0#32
  ![v56.toNat, 0]
def k0_off2 (i : grid0.Coords) : Fin 3 → Nat :=
  let c0_75 : Index := 0#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v154 : Index := Scalar.indexCast v1
  let c0_76 : Index := 0#32
  ![0, v154.toNat, 0]
def k0_off3 (i : grid0.Coords) : Fin 3 → Nat :=
  let c1_117 : Index := 1#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v246 : Index := Scalar.indexCast v1
  let c0_118 : Index := 0#32
  ![1, v246.toNat, 0]
def k0_off4 (i : grid0.Coords) : Fin 3 → Nat :=
  let c2_159 : Index := 2#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v338 : Index := Scalar.indexCast v1
  let c0_160 : Index := 0#32
  ![2, v338.toNat, 0]
def k0_off5 (i : grid0.Coords) : Fin 3 → Nat :=
  let c3_201 : Index := 3#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v430 : Index := Scalar.indexCast v1
  let c0_202 : Index := 0#32
  ![3, v430.toNat, 0]
def k0_off6 (i : grid0.Coords) : Fin 3 → Nat :=
  let c4_243 : Index := 4#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v522 : Index := Scalar.indexCast v1
  let c0_244 : Index := 0#32
  ![4, v522.toNat, 0]
def k0_off7 (i : grid0.Coords) : Fin 3 → Nat :=
  let c5_285 : Index := 5#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v614 : Index := Scalar.indexCast v1
  let c0_286 : Index := 0#32
  ![5, v614.toNat, 0]
def k0_off8 (i : grid0.Coords) : Fin 3 → Nat :=
  let c6_327 : Index := 6#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v706 : Index := Scalar.indexCast v1
  let c0_328 : Index := 0#32
  ![6, v706.toNat, 0]
def k0_off9 (i : grid0.Coords) : Fin 3 → Nat :=
  let c7_369 : Index := 7#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v798 : Index := Scalar.indexCast v1
  let c0_370 : Index := 0#32
  ![7, v798.toNat, 0]
def k0_off10 (i : grid0.Coords) : Fin 3 → Nat :=
  let c8_411 : Index := 8#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v890 : Index := Scalar.indexCast v1
  let c0_412 : Index := 0#32
  ![8, v890.toNat, 0]
def k0_off11 (i : grid0.Coords) : Fin 3 → Nat :=
  let c9_453 : Index := 9#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v982 : Index := Scalar.indexCast v1
  let c0_454 : Index := 0#32
  ![9, v982.toNat, 0]
def k0_off12 (i : grid0.Coords) : Fin 3 → Nat :=
  let c10_495 : Index := 10#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1074 : Index := Scalar.indexCast v1
  let c0_496 : Index := 0#32
  ![10, v1074.toNat, 0]
def k0_off13 (i : grid0.Coords) : Fin 3 → Nat :=
  let c11_537 : Index := 11#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1166 : Index := Scalar.indexCast v1
  let c0_538 : Index := 0#32
  ![11, v1166.toNat, 0]
def k0_off14 (i : grid0.Coords) : Fin 3 → Nat :=
  let c12_579 : Index := 12#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1258 : Index := Scalar.indexCast v1
  let c0_580 : Index := 0#32
  ![12, v1258.toNat, 0]
def k0_off15 (i : grid0.Coords) : Fin 3 → Nat :=
  let c13_621 : Index := 13#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1350 : Index := Scalar.indexCast v1
  let c0_622 : Index := 0#32
  ![13, v1350.toNat, 0]
def k0_off16 (i : grid0.Coords) : Fin 3 → Nat :=
  let c14_663 : Index := 14#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1442 : Index := Scalar.indexCast v1
  let c0_664 : Index := 0#32
  ![14, v1442.toNat, 0]
def k0_off17 (i : grid0.Coords) : Fin 3 → Nat :=
  let c15_705 : Index := 15#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1534 : Index := Scalar.indexCast v1
  let c0_706 : Index := 0#32
  ![15, v1534.toNat, 0]
def k0_off18 (i : grid0.Coords) : Fin 3 → Nat :=
  let c16_747 : Index := 16#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1626 : Index := Scalar.indexCast v1
  let c0_748 : Index := 0#32
  ![16, v1626.toNat, 0]
def k0_off19 (i : grid0.Coords) : Fin 3 → Nat :=
  let c17_789 : Index := 17#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1718 : Index := Scalar.indexCast v1
  let c0_790 : Index := 0#32
  ![17, v1718.toNat, 0]
def k0_off20 (i : grid0.Coords) : Fin 3 → Nat :=
  let c18_831 : Index := 18#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1810 : Index := Scalar.indexCast v1
  let c0_832 : Index := 0#32
  ![18, v1810.toNat, 0]
def k0_off21 (i : grid0.Coords) : Fin 3 → Nat :=
  let c19_873 : Index := 19#32
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v1902 : Index := Scalar.indexCast v1
  let c0_874 : Index := 0#32
  ![19, v1902.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3840x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3840x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x1280 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S100x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1280x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1280x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S20x100x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1280x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvReferenceIdeal.lean ====
abbrev S128x100x1280 : Shape := ⟨3, ![128, 100, 1280]⟩
abbrev S128x6x1280 : Shape := ⟨3, ![128, 6, 1280]⟩
abbrev S1280x3840 : Shape := ⟨2, ![1280, 3840]⟩
abbrev S3840 : Shape := ⟨1, ![3840]⟩
abbrev S1280 : Shape := ⟨1, ![1280]⟩
abbrev S20 : Shape := ⟨1, ![20]⟩
abbrev S_ : Shape := ⟨0, ![]⟩
abbrev S100x128x1280 : Shape := ⟨3, ![100, 128, 1280]⟩
abbrev S6x128x1280 : Shape := ⟨3, ![6, 128, 1280]⟩
abbrev S1x1x3840 : Shape := ⟨3, ![1, 1, 3840]⟩
abbrev S1x1x1280 : Shape := ⟨3, ![1, 1, 1280]⟩
abbrev S1x1x20x1 : Shape := ⟨4, ![1, 1, 20, 1]⟩
abbrev S100x128 : Shape := ⟨2, ![100, 128]⟩
abbrev S100x1280x128 : Shape := ⟨3, ![100, 1280, 128]⟩
abbrev S20x100x128 : Shape := ⟨3, ![20, 100, 128]⟩
abbrev S1x128x1280 : Shape := ⟨3, ![1, 128, 1280]⟩
abbrev S128x1280 : Shape := ⟨2, ![128, 1280]⟩
abbrev S100x128x1 : Shape := ⟨3, ![100, 128, 1]⟩
abbrev S1280x1280 : Shape := ⟨2, ![1280, 1280]⟩
abbrev S12800x1280 : Shape := ⟨2, ![12800, 1280]⟩
abbrev S100x128x20x64 : Shape := ⟨4, ![100, 128, 20, 64]⟩
abbrev S100x128x20 : Shape := ⟨3, ![100, 128, 20]⟩
abbrev S100x128x20x1 : Shape := ⟨4, ![100, 128, 20, 1]⟩
abbrev S100x20x64x128 : Shape := ⟨4, ![100, 20, 64, 128]⟩

abbrev nBuf : Space → Nat
  | .hbm => 23
  | .vmem => 13
  | .smem => 0
  | _ => 0

abbrev bufTy : (tb : Table) → Fin (tcTables nBuf tb) → BufTy
  | .hbm, ⟨0, _⟩ => ⟨S128x100x1280, .bf16⟩
  | .hbm, ⟨1, _⟩ => ⟨S128x6x1280, .f32⟩
  | .hbm, ⟨2, _⟩ => ⟨S1280x3840, .fp8e4m3⟩
  | .hbm, ⟨3, _⟩ => ⟨S3840, .f32⟩
  | .hbm, ⟨4, _⟩ => ⟨S1280, .f32⟩
  | .hbm, ⟨5, _⟩ => ⟨S1280, .f32⟩
  | .hbm, ⟨6, _⟩ => ⟨S20, .f32⟩
  | .hbm, ⟨7, _⟩ => ⟨S_, .f32⟩
  | .hbm, ⟨8, _⟩ => ⟨S20, .f32⟩
  | .hbm, ⟨9, _⟩ => ⟨S20, .f32⟩
  | .hbm, ⟨10, _⟩ => ⟨S20, .f32⟩
  | .hbm, ⟨11, _⟩ => ⟨S100x128x1280, .bf16⟩
  | .hbm, ⟨12, _⟩ => ⟨S6x128x1280, .f32⟩
  | .hbm, ⟨13, _⟩ => ⟨S1x1x3840, .f32⟩
  | .hbm, ⟨14, _⟩ => ⟨S1x1x1280, .f32⟩
  | .hbm, ⟨15, _⟩ => ⟨S1x1x1280, .f32⟩
  | .hbm, ⟨16, _⟩ => ⟨S1x1x20x1, .f32⟩
  | .hbm, ⟨17, _⟩ => ⟨S100x128x1280, .fp8e4m3⟩
  | .hbm, ⟨18, _⟩ => ⟨S100x128, .f32⟩
  | .hbm, ⟨19, _⟩ => ⟨S100x1280x128, .i8⟩
  | .hbm, ⟨20, _⟩ => ⟨S100x1280x128, .i8⟩
  | .hbm, ⟨21, _⟩ => ⟨S20x100x128, .f32⟩
  | .hbm, ⟨22, _⟩ => ⟨S100x1280x128, .bf16⟩
  | .local _ .vmem, ⟨0, _⟩ => ⟨S100x128x1280, .bf16⟩
  | .local _ .vmem, ⟨1, _⟩ => ⟨S6x128x1280, .f32⟩
  | .local _ .vmem, ⟨2, _⟩ => ⟨S1280x3840, .fp8e4m3⟩
  | .local _ .vmem, ⟨3, _⟩ => ⟨S1x1x3840, .f32⟩
  | .local _ .vmem, ⟨4, _⟩ => ⟨S1x1x1280, .f32⟩
  | .local _ .vmem, ⟨5, _⟩ => ⟨S1x1x1280, .f32⟩
  | .local _ .vmem, ⟨6, _⟩ => ⟨S1x1x20x1, .f32⟩
  | .local _ .vmem, ⟨7, _⟩ => ⟨S100x128x1280, .fp8e4m3⟩
  | .local _ .vmem, ⟨8, _⟩ => ⟨S100x128, .f32⟩
  | .local _ .vmem, ⟨9, _⟩ => ⟨S100x1280x128, .i8⟩
  | .local _ .vmem, ⟨10, _⟩ => ⟨S100x1280x128, .i8⟩
  | .local _ .vmem, ⟨11, _⟩ => ⟨S20x100x128, .f32⟩
  | .local _ .vmem, ⟨12, _⟩ => ⟨S100x1280x128, .bf16⟩
  | _, _ => ⟨S128x100x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S100x128x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x128x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x20x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S100x128x1280 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S100x1280x128 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S100x1280x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S20x100x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S100x1280x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.BitsRun.lean ====
module

public import proofs.«01_k».proof.Proof.Gen.Mlp.Frame
public import proofs.«01_k».proof.Proof.Gen.Mlp.Skeleton
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.VecWindow
public import Idealize.ShloMosaic.Lib.WritesUnit

@[expose] public section

set_option maxRecDepth 16384

noncomputable section

namespace Cert.Mlp.Run

open Cert.Mlp Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The residual stream of one block of tokens after the output projection. -/
def midV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 :=
  k0_pay9 (k0_pay8 x0 x3) x4 x5 x1 (View.ld x2 (Rect.unit (s := S6x128x1280) ![0, 0, 0] S1x128x1280.size inb_S6x128x1280_S1x128x1280_0_0_0))
/-- The shift of the second layer norm on this block. -/
def shiftV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 := k0_pay10 (View.ld x2 (Rect.unit (s := S6x128x1280) ![5, 0, 0] S1x128x1280.size inb_S6x128x1280_S1x128x1280_5_0_0))
/-- The normalised residual stream of this block. -/
def normV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 :=
  k0_pay11 (k0_pay8 x0 x3) x4 x5 x1 (View.ld x2 (Rect.unit (s := S6x128x1280) ![0, 0, 0] S1x128x1280.size inb_S6x128x1280_S1x128x1280_0_0_0))
/-- One plus the scale of the second layer norm on this block. -/
def gainV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 := k0_pay12 (View.ld x2 (Rect.unit (s := S6x128x1280) ![3, 0, 0] S1x128x1280.size inb_S6x128x1280_S1x128x1280_3_0_0))
/-- The gelu of the first feed-forward layer on this block. -/
def hidV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x5120 .f32 :=
  k0_pay20 (k0_pay18 (shiftV x0 x1 x2 x3 x4 x5 x6 x7 x8 x9 x10 x11) (normV x0 x1 x2 x3 x4 x5 x6 x7 x8 x9 x10 x11) (gainV x0 x1 x2 x3 x4 x5 x6 x7 x8 x9 x10 x11) x6 x7) (k0_pay19 x8)
/-- The block of the first result. -/
def yBlock (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x1280 .bf16 :=
  k0_pay2 (midV x0 x1 x2 x3 x4 x5 x6 x7 x8 x9 x10 x11) (k0_pay21 (hidV x0 x1 x2 x3 x4 x5 x6 x7 x8 x9 x10 x11)) (k0_pay22 (hidV x0 x1 x2 x3 x4 x5 x6 x7 x8 x9 x10 x11)) x9 x10 x11 (View.ld x2 (Rect.unit (s := S6x128x1280) ![1, 0, 0] S1x128x1280.size inb_S6x128x1280_S1x128x1280_1_0_0))
/-- The codes of the attention output of this block. -/
def coBlock (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x1280 .fp8e4m3 := k0_pay6 x0
/-- The scales of the attention output of this block. -/
def soRow (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128 .f32 := k0_pay7 x0
/-- The codes of the second layer norm of this block. -/
def c2Block (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x1280 .fp8e4m3 := k0_pay16 (shiftV x0 x1 x2 x3 x4 x5 x6 x7 x8 x9 x10 x11) (normV x0 x1 x2 x3 x4 x5 x6 x7 x8 x9 x10 x11) (gainV x0 x1 x2 x3 x4 x5 x6 x7 x8 x9 x10 x11)
/-- The scales of the second layer norm of this block. -/
def s2Row (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128 .f32 := k0_pay17 (shiftV x0 x1 x2 x3 x4 x5 x6 x7 x8 x9 x10 x11) (normV x0 x1 x2 x3 x4 x5 x6 x7 x8 x9 x10 x11) (gainV x0 x1 x2 x3 x4 x5 x6 x7 x8 x9 x10 x11)
/-- The codes of the gelu of this block. -/
def chBlock (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x5120 .fp8e4m3 := k0_pay23 (hidV x0 x1 x2 x3 x4 x5 x6 x7 x8 x9 x10 x11)
/-- The scales of the gelu of this block. -/
def shRow (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128 .f32 := k0_pay1 (k0_pay24 (hidV x0 x1 x2 x3 x4 x5 x6 x7 x8 x9 x10 x11))

/-- A resident scale array with the row of grid point `i` overwritten. -/
def putRow (i : grid0.Coords) (y : Vec F S100x128 .f32) (p : Vec F S1x128 .f32) : Vec F S100x128 .f32 :=
  fun j => if (j 0).val = (i 0).val then p (ix2 0 (j 1)) else y j

/-- Storing a row at grid point `i` leaves `putRow`. -/
theorem read_writes_row {sp : Space} (v : View sig .tc sp S100x128 .f32) (f : v.ty.Contents (Elt F)) (i : grid0.Coords)
    (inb : ∀ a, k0_off1 i a + S1x128.size a ≤ S100x128.size a)
    (w : (Rect.unit (s := S100x128) (k0_off1 i) S1x128.size inb).shape.Idx → Elt F .f32) :
    v.read (Elt F) (v.writes (Elt F) f [⟨Rect.unit (s := S100x128) (k0_off1 i) S1x128.size inb, w⟩])
      = putRow i (v.read (Elt F) f) w := by
  funext j
  have h : k0_off1 i = ![(i 0).val, 0] := k0_off1_eq i
  unfold putRow
  split
  · rename_i hj
    exact View.read_writes_cons_rows_of_mem v f inb w [] j (ix2 0 (j 1)) h (by rw [hj]; rfl) rfl
  · rename_i hj
    exact View.read_writes_cons_rows_of_not_mem v f inb w [] j h (W := 1) rfl (by omega)

set_option maxHeartbeats 1000000 in
/-- What the body does at one grid point. -/
theorem body_run (c : Dev nD) (i : grid0.Coords) (arg1 : Memref sig .tc .vmem S1x128x1280 .f32) (harg1 : arg1.IsWhole) (arg2 : Memref sig .tc .vmem S1x128x1280 .bf16) (harg2 : arg2.IsWhole) (arg3 : Memref sig .tc .vmem S6x128x1280 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1280x5120 .fp8e4m3) (harg7 : arg7.IsWhole) (arg8 : Memref sig .tc .vmem S1x5120 .f32) (harg8 : arg8.IsWhole) (arg9 : Memref sig .tc .vmem S1x5120 .f32) (harg9 : arg9.IsWhole) (arg10 : Memref sig .tc .vmem S5120x1280 .fp8e4m3) (harg10 : arg10.IsWhole) (arg11 : Memref sig .tc .vmem S1x1280 .f32) (harg11 : arg11.IsWhole) (arg12 : Memref sig .tc .vmem S1x1280 .f32) (harg12 : arg12.IsWhole) (arg13 : Memref sig .tc .vmem S1x128x1280 .bf16) (harg13 : arg13.IsWhole) (arg14 : Memref sig .tc .vmem S1x128x1280 .fp8e4m3) (harg14 : arg14.IsWhole) (arg15 : Memref sig .tc .vmem S100x128 .f32) (harg15 : arg15.IsWhole) (arg16 : Memref sig .tc .vmem S1x128x1280 .fp8e4m3) (harg16 : arg16.IsWhole) (arg17 : Memref sig .tc .vmem S100x128 .f32) (harg17 : arg17.IsWhole) (arg18 : Memref sig .tc .vmem S1x128x5120 .fp8e4m3) (harg18 : arg18.IsWhole) (arg19 : Memref sig .tc .vmem S100x128 .f32) (harg19 : arg19.IsWhole) (arg20 : Memref sig .tc .vmem S128x5120 .f32) (harg20 : arg20.IsWhole)
    (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) (y14 y16 y18 : Vec F S100x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare y14 ∗ (∃ d, owns (c : Thread nD τ) arg16 fullShare d) ∗ owns (c : Thread nD τ) arg17 fullShare y16 ∗ (∃ d, owns (c : Thread nD τ) arg18 fullShare d) ∗ owns (c : Thread nD τ) arg19 fullShare y18 ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (yBlock x0 x1 x2 x3 x4 x5 x6 x7 x8 x9 x10 x11) ∗ owns (c : Thread nD τ) arg14 fullShare (coBlock x0 x1 x2 x3 x4 x5 x6 x7 x8 x9 x10 x11) ∗ owns (c : Thread nD τ) arg15 fullShare (putRow i y14 (soRow x0 x1 x2 x3 x4 x5 x6 x7 x8 x9 x10 x11)) ∗ owns (c : Thread nD τ) arg16 fullShare (c2Block x0 x1 x2 x3 x4 x5 x6 x7 x8 x9 x10 x11) ∗ owns (c : Thread nD τ) arg17 fullShare (putRow i y16 (s2Row x0 x1 x2 x3 x4 x5 x6 x7 x8 x9 x10 x11)) ∗ owns (c : Thread nD τ) arg18 fullShare (chBlock x0 x1 x2 x3 x4 x5 x6 x7 x8 x9 x10 x11) ∗ owns (c : Thread nD τ) arg19 fullShare (putRow i y18 (shRow x0 x1 x2 x3 x4 x5 x6 x7 x8 x9 x10 x11)) ∗ (∃ d, owns (c : Thread nD τ) arg20 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_mlp_eq_skeleton]; unfold cc0_mlp_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%d15, %f15, -, H15⟩, ⟨%f16, %hf16, H16⟩, ⟨%d17, %f17, -, H17⟩, ⟨%f18, %hf18, H18⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14; obtain rfl := harg17.eq_unread hf16; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      rw [View.read_writes_full]
      frame_open
      simp (disch := decide) only [View.ld_unit_lit', View.readCov_unit_lit', View.readCov_cons_unit_lit', View.readAt_eq_ld, Memref.IsWhole.read_unread]
      simp only [yBlock, hidV, midV, shiftV, normV, gainV]
      done
    isplitl [H13]
    · iexists _; isplitr; swap; · iexact H13
      ipureintro
      rw [View.read_writes_full]
      frame_open
      simp (disch := decide) only [View.ld_unit_lit', View.readCov_unit_lit', View.readCov_cons_unit_lit', View.readAt_eq_ld, Memref.IsWhole.read_unread]
      simp only [coBlock, hidV, midV, shiftV, normV, gainV]
      done
    isplitl [H14]
    · iexists _; isplitr; swap; · iexact H14
      ipureintro
      rw [read_writes_row]
      frame_open
      simp (disch := decide) only [View.ld_unit_lit', View.readCov_unit_lit', View.readCov_cons_unit_lit', View.readAt_eq_ld, Memref.IsWhole.read_unread]
      simp only [soRow, hidV, midV, shiftV, normV, gainV]
      done
    isplitl [H15]
    · iexists _; isplitr; swap; · iexact H15
      ipureintro
      rw [View.read_writes_full]
      frame_open
      simp (disch := decide) only [View.ld_unit_lit', View.readCov_unit_lit', View.readCov_cons_unit_lit', View.readAt_eq_ld, Memref.IsWhole.read_unread]
      simp only [c2Block, hidV, midV, shiftV, normV, gainV]
      done
    isplitl [H16]
    · iexists _; isplitr; swap; · iexact H16
      ipureintro
      rw [read_writes_row]
      frame_open
      simp (disch := decide) only [View.ld_unit_lit', View.readCov_unit_lit', View.readCov_cons_unit_lit', View.readAt_eq_ld, Memref.IsWhole.read_unread]
      simp only [s2Row, hidV, midV, shiftV, normV, gainV]
      done
    isplitl [H17]
    · iexists _; isplitr; swap; · iexact H17
      ipureintro
      rw [View.read_writes_full]
      frame_open
      simp (disch := decide) only [View.ld_unit_lit', View.readCov_unit_lit', View.readCov_cons_unit_lit', View.readAt_eq_ld, Memref.IsWhole.read_unread]
      simp only [chBlock, hidV, midV, shiftV, normV, gainV]
      done
    isplitl [H18]
    · iexists _; isplitr; swap; · iexact H18
      ipureintro
      rw [read_writes_row]
      frame_open
      simp (disch := decide) only [View.ld_unit_lit', View.readCov_unit_lit', View.readCov_cons_unit_lit', View.readAt_eq_ld, Memref.IsWhole.read_unread]
      simp only [shRow, hidV, midV, shiftV, normV, gainV]
      done
    iexists _, _; isplitr; swap; · iexact HS0
    ipureintro; rfl

end Cert.Mlp.Run

end
-- ==== Proof.BitsFrame.lean ====
module

public import proofs.«01_k».proof.Proof.BitsRun
public import Idealize.ShloMosaic.Lib.Pipeline.ArrRel

@[expose] public section

set_option maxRecDepth 16384

noncomputable section

namespace Cert.Mlp.Run

open Cert.Mlp Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result as grid point `t` computes them from the blocks it is handed. -/
def yAt (c : Dev nD) (t : Fin cfg0.N) : Vec F S1x128x1280 .bf16 := yBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The codes of the attention output as grid point `t` computes them from the blocks it is handed. -/
def coAt (c : Dev nD) (t : Fin cfg0.N) : Vec F S1x128x1280 .fp8e4m3 := coBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The scales of the attention output as grid point `t` computes them from the blocks it is handed. -/
def soAt (c : Dev nD) (t : Fin cfg0.N) : Vec F S1x128 .f32 := soRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The codes of the second layer norm as grid point `t` computes them from the blocks it is handed. -/
def c2At (c : Dev nD) (t : Fin cfg0.N) : Vec F S1x128x1280 .fp8e4m3 := c2Block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The scales of the second layer norm as grid point `t` computes them from the blocks it is handed. -/
def s2At (c : Dev nD) (t : Fin cfg0.N) : Vec F S1x128 .f32 := s2Row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The codes of the gelu as grid point `t` computes them from the blocks it is handed. -/
def chAt (c : Dev nD) (t : Fin cfg0.N) : Vec F S1x128x5120 .fp8e4m3 := chBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The scales of the gelu as grid point `t` computes them from the blocks it is handed. -/
def shAt (c : Dev nD) (t : Fin cfg0.N) : Vec F S1x128 .f32 := shRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the body leaves in an output's buffer at grid point `t`: the block of that point; in the three arrays of scales, which stay
    in place, the rows of all points so far. -/
def Rl (c : Dev nD) (w : Fin cfg0.W) (t : Fin cfg0.N) : ((cfg0.win w).block.Idx → Elt F (cfg0.win w).elt) → Prop :=
  match w with
  | ⟨12, _⟩ => fun X => X = yAt m c t
  | ⟨13, _⟩ => fun X => X = coAt m c t
  | ⟨14, _⟩ => fun (X : Vec F S100x128 .f32) => ∀ (s : Fin cfg0.N), s.val ≤ t.val → ∀ j : S100x128.Idx, (j 0).val = s.val → X j = soAt m c s (ix2 0 (j 1))
  | ⟨15, _⟩ => fun X => X = c2At m c t
  | ⟨16, _⟩ => fun (X : Vec F S100x128 .f32) => ∀ (s : Fin cfg0.N), s.val ≤ t.val → ∀ j : S100x128.Idx, (j 0).val = s.val → X j = s2At m c s (ix2 0 (j 1))
  | ⟨17, _⟩ => fun X => X = chAt m c t
  | ⟨18, _⟩ => fun (X : Vec F S100x128 .f32) => ∀ (s : Fin cfg0.N), s.val ≤ t.val → ∀ j : S100x128.Idx, (j 0).val = s.val → X j = shAt m c s (ix2 0 (j 1))
  | _ => fun _ => True

/-- The argument arrays end unchanged. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 6 rfl).trans ((hA c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 9 rfl).trans ((hA c 9).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

abbrev ms0_0 (t : Fin cfg0.N) : Memref sig .tc .vmem S1x128x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x128x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5120x1280 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x1280 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128x1280 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S100x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128x1280 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S100x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128x5120 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S100x128 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S128x5120 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output windows. -/
def forgets0 : Fin 19 → Bool := fun w => w.val == 12 || w.val == 13 || w.val == 14 || w.val == 15 || w.val == 16 || w.val == 17 || w.val == 18

/-- The proof data of the one pipeline on core `c`: each input's buffer holds its block; the outputs are held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The proof data with the outputs held to `Rl`. -/
abbrev rdat (c : Dev nD) : Pipeline.RDat τ (Elt F) Unit ℕ (UR sig nD τ) ℕ (cfgs 0) c := (dats m 0 c).toRRel forgets0 (Rl m c)

theorem coords_val : ∀ t : Fin grid0.N, (grid0.coords t 0).val = t.val := by decide +kernel

/-- Before point `t`, the rows of the earlier points stand. -/
theorem found_14 (c : Dev nD) (t : Fin cfg0.N) (Y : Vec F S100x128 .f32) (h : (rdat m c).Finds 14 t Y) :
    ∀ (s : Fin cfg0.N), s.val < t.val → ∀ j : S100x128.Idx, (j 0).val = s.val → Y j = soAt m c s (ix2 0 (j 1)) := by
  intro s hs j hj
  have ht : t.val ≠ 0 := by omega
  rcases ((rdat m c).finds_of_pos (w := 14) (t := t) rfl ht Y).mp h with hf | hl
  · have h1 := (flush0_14 _).mp hf
    have h2 : t.val < 100 := t.isLt
    simp only at h1
    omega
  · exact (Dat.toRRel_leaves (dats m 0 c) (fgt := forgets0) (Rl := Rl m c) (w := 14) rfl hl) s (by show s.val ≤ t.val - 1; omega) j hj

/-- After point `t`, its row stands too. -/
theorem left_14 (c : Dev nD) (t : Fin cfg0.N) (Y : Vec F S100x128 .f32) (h : (rdat m c).Finds 14 t Y) :
    Rl m c 14 t (putRow (grid0.coords t) Y (soAt m c t)) := by
  intro s hs j hj
  unfold putRow
  split
  · rename_i h'
    rw [coords_val] at h'
    have : s = t := Fin.ext (by omega)
    rw [this]
  · rename_i h'
    rw [coords_val] at h'
    exact found_14 m c t Y h s (by omega) j hj

/-- Before point `t`, the rows of the earlier points stand. -/
theorem found_16 (c : Dev nD) (t : Fin cfg0.N) (Y : Vec F S100x128 .f32) (h : (rdat m c).Finds 16 t Y) :
    ∀ (s : Fin cfg0.N), s.val < t.val → ∀ j : S100x128.Idx, (j 0).val = s.val → Y j = s2At m c s (ix2 0 (j 1)) := by
  intro s hs j hj
  have ht : t.val ≠ 0 := by omega
  rcases ((rdat m c).finds_of_pos (w := 16) (t := t) rfl ht Y).mp h with hf | hl
  · have h1 := (flush0_16 _).mp hf
    have h2 : t.val < 100 := t.isLt
    simp only at h1
    omega
  · exact (Dat.toRRel_leaves (dats m 0 c) (fgt := forgets0) (Rl := Rl m c) (w := 16) rfl hl) s (by show s.val ≤ t.val - 1; omega) j hj

/-- After point `t`, its row stands too. -/
theorem left_16 (c : Dev nD) (t : Fin cfg0.N) (Y : Vec F S100x128 .f32) (h : (rdat m c).Finds 16 t Y) :
    Rl m c 16 t (putRow (grid0.coords t) Y (s2At m c t)) := by
  intro s hs j hj
  unfold putRow
  split
  · rename_i h'
    rw [coords_val] at h'
    have : s = t := Fin.ext (by omega)
    rw [this]
  · rename_i h'
    rw [coords_val] at h'
    exact found_16 m c t Y h s (by omega) j hj

/-- Before point `t`, the rows of the earlier points stand. -/
theorem found_18 (c : Dev nD) (t : Fin cfg0.N) (Y : Vec F S100x128 .f32) (h : (rdat m c).Finds 18 t Y) :
    ∀ (s : Fin cfg0.N), s.val < t.val → ∀ j : S100x128.Idx, (j 0).val = s.val → Y j = shAt m c s (ix2 0 (j 1)) := by
  intro s hs j hj
  have ht : t.val ≠ 0 := by omega
  rcases ((rdat m c).finds_of_pos (w := 18) (t := t) rfl ht Y).mp h with hf | hl
  · have h1 := (flush0_18 _).mp hf
    have h2 : t.val < 100 := t.isLt
    simp only at h1
    omega
  · exact (Dat.toRRel_leaves (dats m 0 c) (fgt := forgets0) (Rl := Rl m c) (w := 18) rfl hl) s (by show s.val ≤ t.val - 1; omega) j hj

/-- After point `t`, its row stands too. -/
theorem left_18 (c : Dev nD) (t : Fin cfg0.N) (Y : Vec F S100x128 .f32) (h : (rdat m c).Finds 18 t Y) :
    Rl m c 18 t (putRow (grid0.coords t) Y (shAt m c t)) := by
  intro s hs j hj
  unfold putRow
  split
  · rename_i h'
    rw [coords_val] at h'
    have : s = t := Fin.ext (by omega)
    rw [this]
  · rename_i h'
    rw [coords_val] at h'
    exact found_18 m c t Y h s (by omega) j hj

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y)
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %h12, H12⟩, ⟨%Y13, %h13, H13⟩, ⟨%Y14, %h14, H14⟩, ⟨%Y15, %h15, H15⟩, ⟨%Y16, %h16, H16⟩, ⟨%Y17, %h17, H17⟩, ⟨%Y18, %h18, H18⟩⟩
  iapply (body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y14 Y16 Y18 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexists _; iexact H15
  isplitl [H16]; · iexact H16
  isplitl [H17]; · iexists _; iexact H17
  isplitl [H18]; · iexact H18
  isplitl [HS0]; · iexact HS0
  iintro ⟨H0, H1, H2, H3, H4, H5, H6, H7, H8, H9, H10, H11, H12, H13, H14, H15, H16, H17, H18, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact left_14 m c t Y14 h14
  isplitl [H15]
  · iexists _; isplitr; swap; · iexact H15
    ipureintro; exact rfl
  isplitl [H16]
  · iexists _; isplitr; swap; · iexact H16
    ipureintro; exact left_16 m c t Y16 h16
  isplitl [H17]
  · iexists _; isplitr; swap; · iexact H17
    ipureintro; exact rfl
  iexists _; isplitr; swap; · iexact H18
  ipureintro; exact left_18 m c t Y18 h18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run and the frame -/

set_option backward.isDefEq.respectTransparency.types false in
/-- The run: every array ends at contents that `Rl` allows, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_ofR m ρ (rdat m) (A_eq m) ((θ_run defs _ _).mono (fun _ h => h.1) (run_main_quiescent m ρ))

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Mlp.Run

end
-- ==== Proof.MlpRun.lean ====
module

public import proofs.«01_k».proof.Proof.Gen.MlpIdeal.Frame
public import proofs.«01_k».proof.Proof.Gen.MlpIdeal.Skeleton
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.VecWindow
public import Idealize.ShloMosaic.Lib.WritesUnit

@[expose] public section

set_option maxRecDepth 16384

noncomputable section

namespace Cert.MlpIdeal.Run

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The residual stream of one block of tokens after the output projection. -/
def midV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 :=
  k0_pay9 (k0_pay8 x0 x3) x4 x5 x1 (View.ld x2 (Rect.unit (s := S6x128x1280) ![0, 0, 0] S1x128x1280.size inb_S6x128x1280_S1x128x1280_0_0_0))
/-- The shift of the second layer norm on this block. -/
def shiftV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 := k0_pay10 (View.ld x2 (Rect.unit (s := S6x128x1280) ![5, 0, 0] S1x128x1280.size inb_S6x128x1280_S1x128x1280_5_0_0))
/-- The normalised residual stream of this block. -/
def normV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 :=
  k0_pay11 (k0_pay8 x0 x3) x4 x5 x1 (View.ld x2 (Rect.unit (s := S6x128x1280) ![0, 0, 0] S1x128x1280.size inb_S6x128x1280_S1x128x1280_0_0_0))
/-- One plus the scale of the second layer norm on this block. -/
def gainV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x1280 .f32 := k0_pay12 (View.ld x2 (Rect.unit (s := S6x128x1280) ![3, 0, 0] S1x128x1280.size inb_S6x128x1280_S1x128x1280_3_0_0))
/-- The gelu of the first feed-forward layer on this block. -/
def hidV (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : FVec F S128x5120 .f32 :=
  k0_pay20 (k0_pay18 (shiftV x0 x1 x2 x3 x4 x5 x6 x7 x8 x9 x10 x11) (normV x0 x1 x2 x3 x4 x5 x6 x7 x8 x9 x10 x11) (gainV x0 x1 x2 x3 x4 x5 x6 x7 x8 x9 x10 x11) x6 x7) (k0_pay19 x8)
/-- The block of the first result. -/
def yBlock (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x1280 .bf16 :=
  k0_pay2 (midV x0 x1 x2 x3 x4 x5 x6 x7 x8 x9 x10 x11) (k0_pay21 (hidV x0 x1 x2 x3 x4 x5 x6 x7 x8 x9 x10 x11)) (k0_pay22 (hidV x0 x1 x2 x3 x4 x5 x6 x7 x8 x9 x10 x11)) x9 x10 x11 (View.ld x2 (Rect.unit (s := S6x128x1280) ![1, 0, 0] S1x128x1280.size inb_S6x128x1280_S1x128x1280_1_0_0))
/-- The codes of the attention output of this block. -/
def coBlock (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x1280 .fp8e4m3 := k0_pay6 x0
/-- The scales of the attention output of this block. -/
def soRow (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128 .f32 := k0_pay7 x0
/-- The codes of the second layer norm of this block. -/
def c2Block (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x1280 .fp8e4m3 := k0_pay16 (shiftV x0 x1 x2 x3 x4 x5 x6 x7 x8 x9 x10 x11) (normV x0 x1 x2 x3 x4 x5 x6 x7 x8 x9 x10 x11) (gainV x0 x1 x2 x3 x4 x5 x6 x7 x8 x9 x10 x11)
/-- The scales of the second layer norm of this block. -/
def s2Row (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128 .f32 := k0_pay17 (shiftV x0 x1 x2 x3 x4 x5 x6 x7 x8 x9 x10 x11) (normV x0 x1 x2 x3 x4 x5 x6 x7 x8 x9 x10 x11) (gainV x0 x1 x2 x3 x4 x5 x6 x7 x8 x9 x10 x11)
/-- The codes of the gelu of this block. -/
def chBlock (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128x5120 .fp8e4m3 := k0_pay23 (hidV x0 x1 x2 x3 x4 x5 x6 x7 x8 x9 x10 x11)
/-- The scales of the gelu of this block. -/
def shRow (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) : Vec F S1x128 .f32 := k0_pay1 (k0_pay24 (hidV x0 x1 x2 x3 x4 x5 x6 x7 x8 x9 x10 x11))

/-- A resident scale array with the row of grid point `i` overwritten. -/
def putRow (i : grid0.Coords) (y : Vec F S100x128 .f32) (p : Vec F S1x128 .f32) : Vec F S100x128 .f32 :=
  fun j => if (j 0).val = (i 0).val then p (ix2 0 (j 1)) else y j

/-- Storing a row at grid point `i` leaves `putRow`. -/
theorem read_writes_row {sp : Space} (v : View sig .tc sp S100x128 .f32) (f : v.ty.Contents (Elt F)) (i : grid0.Coords)
    (inb : ∀ a, k0_off1 i a + S1x128.size a ≤ S100x128.size a)
    (w : (Rect.unit (s := S100x128) (k0_off1 i) S1x128.size inb).shape.Idx → Elt F .f32) :
    v.read (Elt F) (v.writes (Elt F) f [⟨Rect.unit (s := S100x128) (k0_off1 i) S1x128.size inb, w⟩])
      = putRow i (v.read (Elt F) f) w := by
  funext j
  have h : k0_off1 i = ![(i 0).val, 0] := k0_off1_eq i
  unfold putRow
  split
  · rename_i hj
    exact View.read_writes_cons_rows_of_mem v f inb w [] j (ix2 0 (j 1)) h (by rw [hj]; rfl) rfl
  · rename_i hj
    exact View.read_writes_cons_rows_of_not_mem v f inb w [] j h (W := 1) rfl (by omega)

set_option maxHeartbeats 1000000 in
/-- What the body does at one grid point. -/
theorem body_run (c : Dev nD) (i : grid0.Coords) (arg1 : Memref sig .tc .vmem S1x128x1280 .f32) (harg1 : arg1.IsWhole) (arg2 : Memref sig .tc .vmem S1x128x1280 .bf16) (harg2 : arg2.IsWhole) (arg3 : Memref sig .tc .vmem S6x128x1280 .f32) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1280x5120 .fp8e4m3) (harg7 : arg7.IsWhole) (arg8 : Memref sig .tc .vmem S1x5120 .f32) (harg8 : arg8.IsWhole) (arg9 : Memref sig .tc .vmem S1x5120 .f32) (harg9 : arg9.IsWhole) (arg10 : Memref sig .tc .vmem S5120x1280 .fp8e4m3) (harg10 : arg10.IsWhole) (arg11 : Memref sig .tc .vmem S1x1280 .f32) (harg11 : arg11.IsWhole) (arg12 : Memref sig .tc .vmem S1x1280 .f32) (harg12 : arg12.IsWhole) (arg13 : Memref sig .tc .vmem S1x128x1280 .bf16) (harg13 : arg13.IsWhole) (arg14 : Memref sig .tc .vmem S1x128x1280 .fp8e4m3) (harg14 : arg14.IsWhole) (arg15 : Memref sig .tc .vmem S100x128 .f32) (harg15 : arg15.IsWhole) (arg16 : Memref sig .tc .vmem S1x128x1280 .fp8e4m3) (harg16 : arg16.IsWhole) (arg17 : Memref sig .tc .vmem S100x128 .f32) (harg17 : arg17.IsWhole) (arg18 : Memref sig .tc .vmem S1x128x5120 .fp8e4m3) (harg18 : arg18.IsWhole) (arg19 : Memref sig .tc .vmem S100x128 .f32) (harg19 : arg19.IsWhole) (arg20 : Memref sig .tc .vmem S128x5120 .f32) (harg20 : arg20.IsWhole)
    (x0 : Vec F S1x128x1280 .f32) (x1 : Vec F S1x128x1280 .bf16) (x2 : Vec F S6x128x1280 .f32) (x3 : Vec F S1280x1280 .fp8e4m3) (x4 : Vec F S1x1280 .f32) (x5 : Vec F S1x1280 .f32) (x6 : Vec F S1280x5120 .fp8e4m3) (x7 : Vec F S1x5120 .f32) (x8 : Vec F S1x5120 .f32) (x9 : Vec F S5120x1280 .fp8e4m3) (x10 : Vec F S1x1280 .f32) (x11 : Vec F S1x1280 .f32) (y14 y16 y18 : Vec F S100x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare y14 ∗ (∃ d, owns (c : Thread nD τ) arg16 fullShare d) ∗ owns (c : Thread nD τ) arg17 fullShare y16 ∗ (∃ d, owns (c : Thread nD τ) arg18 fullShare d) ∗ owns (c : Thread nD τ) arg19 fullShare y18 ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (yBlock x0 x1 x2 x3 x4 x5 x6 x7 x8 x9 x10 x11) ∗ owns (c : Thread nD τ) arg14 fullShare (coBlock x0 x1 x2 x3 x4 x5 x6 x7 x8 x9 x10 x11) ∗ owns (c : Thread nD τ) arg15 fullShare (putRow i y14 (soRow x0 x1 x2 x3 x4 x5 x6 x7 x8 x9 x10 x11)) ∗ owns (c : Thread nD τ) arg16 fullShare (c2Block x0 x1 x2 x3 x4 x5 x6 x7 x8 x9 x10 x11) ∗ owns (c : Thread nD τ) arg17 fullShare (putRow i y16 (s2Row x0 x1 x2 x3 x4 x5 x6 x7 x8 x9 x10 x11)) ∗ owns (c : Thread nD τ) arg18 fullShare (chBlock x0 x1 x2 x3 x4 x5 x6 x7 x8 x9 x10 x11) ∗ owns (c : Thread nD τ) arg19 fullShare (putRow i y18 (shRow x0 x1 x2 x3 x4 x5 x6 x7 x8 x9 x10 x11)) ∗ (∃ d, owns (c : Thread nD τ) arg20 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_mlp_eq_skeleton]; unfold cc0_mlp_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%d15, %f15, -, H15⟩, ⟨%f16, %hf16, H16⟩, ⟨%d17, %f17, -, H17⟩, ⟨%f18, %hf18, H18⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14; obtain rfl := harg17.eq_unread hf16; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      rw [View.read_writes_full]
      frame_open
      simp (disch := decide) only [View.ld_unit_lit', View.readCov_unit_lit', View.readCov_cons_unit_lit', View.readAt_eq_ld, Memref.IsWhole.read_unread]
      simp only [yBlock, hidV, midV, shiftV, normV, gainV]
      done
    isplitl [H13]
    · iexists _; isplitr; swap; · iexact H13
      ipureintro
      rw [View.read_writes_full]
      frame_open
      simp (disch := decide) only [View.ld_unit_lit', View.readCov_unit_lit', View.readCov_cons_unit_lit', View.readAt_eq_ld, Memref.IsWhole.read_unread]
      simp only [coBlock, hidV, midV, shiftV, normV, gainV]
      done
    isplitl [H14]
    · iexists _; isplitr; swap; · iexact H14
      ipureintro
      rw [read_writes_row]
      frame_open
      simp (disch := decide) only [View.ld_unit_lit', View.readCov_unit_lit', View.readCov_cons_unit_lit', View.readAt_eq_ld, Memref.IsWhole.read_unread]
      simp only [soRow, hidV, midV, shiftV, normV, gainV]
      done
    isplitl [H15]
    · iexists _; isplitr; swap; · iexact H15
      ipureintro
      rw [View.read_writes_full]
      frame_open
      simp (disch := decide) only [View.ld_unit_lit', View.readCov_unit_lit', View.readCov_cons_unit_lit', View.readAt_eq_ld, Memref.IsWhole.read_unread]
      simp only [c2Block, hidV, midV, shiftV, normV, gainV]
      done
    isplitl [H16]
    · iexists _; isplitr; swap; · iexact H16
      ipureintro
      rw [read_writes_row]
      frame_open
      simp (disch := decide) only [View.ld_unit_lit', View.readCov_unit_lit', View.readCov_cons_unit_lit', View.readAt_eq_ld, Memref.IsWhole.read_unread]
      simp only [s2Row, hidV, midV, shiftV, normV, gainV]
      done
    isplitl [H17]
    · iexists _; isplitr; swap; · iexact H17
      ipureintro
      rw [View.read_writes_full]
      frame_open
      simp (disch := decide) only [View.ld_unit_lit', View.readCov_unit_lit', View.readCov_cons_unit_lit', View.readAt_eq_ld, Memref.IsWhole.read_unread]
      simp only [chBlock, hidV, midV, shiftV, normV, gainV]
      done
    isplitl [H18]
    · iexists _; isplitr; swap; · iexact H18
      ipureintro
      rw [read_writes_row]
      frame_open
      simp (disch := decide) only [View.ld_unit_lit', View.readCov_unit_lit', View.readCov_cons_unit_lit', View.readAt_eq_ld, Memref.IsWhole.read_unread]
      simp only [shRow, hidV, midV, shiftV, normV, gainV]
      done
    iexists _, _; isplitr; swap; · iexact HS0
    ipureintro; rfl

end Cert.MlpIdeal.Run

end
-- ==== Proof.MlpFrame.lean ====
module

public import proofs.«01_k».proof.Proof.MlpRun
public import Idealize.ShloMosaic.Lib.Pipeline.ArrRel

@[expose] public section

set_option maxRecDepth 16384

noncomputable section

namespace Cert.MlpIdeal.Run

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result as grid point `t` computes them from the blocks it is handed. -/
def yAt (c : Dev nD) (t : Fin cfg0.N) : Vec F S1x128x1280 .bf16 := yBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The codes of the attention output as grid point `t` computes them from the blocks it is handed. -/
def coAt (c : Dev nD) (t : Fin cfg0.N) : Vec F S1x128x1280 .fp8e4m3 := coBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The scales of the attention output as grid point `t` computes them from the blocks it is handed. -/
def soAt (c : Dev nD) (t : Fin cfg0.N) : Vec F S1x128 .f32 := soRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The codes of the second layer norm as grid point `t` computes them from the blocks it is handed. -/
def c2At (c : Dev nD) (t : Fin cfg0.N) : Vec F S1x128x1280 .fp8e4m3 := c2Block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The scales of the second layer norm as grid point `t` computes them from the blocks it is handed. -/
def s2At (c : Dev nD) (t : Fin cfg0.N) : Vec F S1x128 .f32 := s2Row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The codes of the gelu as grid point `t` computes them from the blocks it is handed. -/
def chAt (c : Dev nD) (t : Fin cfg0.N) : Vec F S1x128x5120 .fp8e4m3 := chBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The scales of the gelu as grid point `t` computes them from the blocks it is handed. -/
def shAt (c : Dev nD) (t : Fin cfg0.N) : Vec F S1x128 .f32 := shRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the body leaves in an output's buffer at grid point `t`: the block of that point; in the three arrays of scales, which stay
    in place, the rows of all points so far. -/
def Rl (c : Dev nD) (w : Fin cfg0.W) (t : Fin cfg0.N) : ((cfg0.win w).block.Idx → Elt F (cfg0.win w).elt) → Prop :=
  match w with
  | ⟨12, _⟩ => fun X => X = yAt m c t
  | ⟨13, _⟩ => fun X => X = coAt m c t
  | ⟨14, _⟩ => fun (X : Vec F S100x128 .f32) => ∀ (s : Fin cfg0.N), s.val ≤ t.val → ∀ j : S100x128.Idx, (j 0).val = s.val → X j = soAt m c s (ix2 0 (j 1))
  | ⟨15, _⟩ => fun X => X = c2At m c t
  | ⟨16, _⟩ => fun (X : Vec F S100x128 .f32) => ∀ (s : Fin cfg0.N), s.val ≤ t.val → ∀ j : S100x128.Idx, (j 0).val = s.val → X j = s2At m c s (ix2 0 (j 1))
  | ⟨17, _⟩ => fun X => X = chAt m c t
  | ⟨18, _⟩ => fun (X : Vec F S100x128 .f32) => ∀ (s : Fin cfg0.N), s.val ≤ t.val → ∀ j : S100x128.Idx, (j 0).val = s.val → X j = shAt m c s (ix2 0 (j 1))
  | _ => fun _ => True

/-- The argument arrays end unchanged. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 6 rfl).trans ((hA c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 9 rfl).trans ((hA c 9).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

abbrev ms0_0 (t : Fin cfg0.N) : Memref sig .tc .vmem S1x128x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x128x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5120x1280 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x1280 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128x1280 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S100x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128x1280 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S100x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128x5120 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S100x128 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S128x5120 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output windows. -/
def forgets0 : Fin 19 → Bool := fun w => w.val == 12 || w.val == 13 || w.val == 14 || w.val == 15 || w.val == 16 || w.val == 17 || w.val == 18

/-- The proof data of the one pipeline on core `c`: each input's buffer holds its block; the outputs are held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The proof data with the outputs held to `Rl`. -/
abbrev rdat (c : Dev nD) : Pipeline.RDat τ (Elt F) Unit ℕ (UR sig nD τ) ℕ (cfgs 0) c := (dats m 0 c).toRRel forgets0 (Rl m c)

theorem coords_val : ∀ t : Fin grid0.N, (grid0.coords t 0).val = t.val := by decide +kernel

/-- Before point `t`, the rows of the earlier points stand. -/
theorem found_14 (c : Dev nD) (t : Fin cfg0.N) (Y : Vec F S100x128 .f32) (h : (rdat m c).Finds 14 t Y) :
    ∀ (s : Fin cfg0.N), s.val < t.val → ∀ j : S100x128.Idx, (j 0).val = s.val → Y j = soAt m c s (ix2 0 (j 1)) := by
  intro s hs j hj
  have ht : t.val ≠ 0 := by omega
  rcases ((rdat m c).finds_of_pos (w := 14) (t := t) rfl ht Y).mp h with hf | hl
  · have h1 := (flush0_14 _).mp hf
    have h2 : t.val < 100 := t.isLt
    simp only at h1
    omega
  · exact (Dat.toRRel_leaves (dats m 0 c) (fgt := forgets0) (Rl := Rl m c) (w := 14) rfl hl) s (by show s.val ≤ t.val - 1; omega) j hj

/-- After point `t`, its row stands too. -/
theorem left_14 (c : Dev nD) (t : Fin cfg0.N) (Y : Vec F S100x128 .f32) (h : (rdat m c).Finds 14 t Y) :
    Rl m c 14 t (putRow (grid0.coords t) Y (soAt m c t)) := by
  intro s hs j hj
  unfold putRow
  split
  · rename_i h'
    rw [coords_val] at h'
    have : s = t := Fin.ext (by omega)
    rw [this]
  · rename_i h'
    rw [coords_val] at h'
    exact found_14 m c t Y h s (by omega) j hj

/-- Before point `t`, the rows of the earlier points stand. -/
theorem found_16 (c : Dev nD) (t : Fin cfg0.N) (Y : Vec F S100x128 .f32) (h : (rdat m c).Finds 16 t Y) :
    ∀ (s : Fin cfg0.N), s.val < t.val → ∀ j : S100x128.Idx, (j 0).val = s.val → Y j = s2At m c s (ix2 0 (j 1)) := by
  intro s hs j hj
  have ht : t.val ≠ 0 := by omega
  rcases ((rdat m c).finds_of_pos (w := 16) (t := t) rfl ht Y).mp h with hf | hl
  · have h1 := (flush0_16 _).mp hf
    have h2 : t.val < 100 := t.isLt
    simp only at h1
    omega
  · exact (Dat.toRRel_leaves (dats m 0 c) (fgt := forgets0) (Rl := Rl m c) (w := 16) rfl hl) s (by show s.val ≤ t.val - 1; omega) j hj

/-- After point `t`, its row stands too. -/
theorem left_16 (c : Dev nD) (t : Fin cfg0.N) (Y : Vec F S100x128 .f32) (h : (rdat m c).Finds 16 t Y) :
    Rl m c 16 t (putRow (grid0.coords t) Y (s2At m c t)) := by
  intro s hs j hj
  unfold putRow
  split
  · rename_i h'
    rw [coords_val] at h'
    have : s = t := Fin.ext (by omega)
    rw [this]
  · rename_i h'
    rw [coords_val] at h'
    exact found_16 m c t Y h s (by omega) j hj

/-- Before point `t`, the rows of the earlier points stand. -/
theorem found_18 (c : Dev nD) (t : Fin cfg0.N) (Y : Vec F S100x128 .f32) (h : (rdat m c).Finds 18 t Y) :
    ∀ (s : Fin cfg0.N), s.val < t.val → ∀ j : S100x128.Idx, (j 0).val = s.val → Y j = shAt m c s (ix2 0 (j 1)) := by
  intro s hs j hj
  have ht : t.val ≠ 0 := by omega
  rcases ((rdat m c).finds_of_pos (w := 18) (t := t) rfl ht Y).mp h with hf | hl
  · have h1 := (flush0_18 _).mp hf
    have h2 : t.val < 100 := t.isLt
    simp only at h1
    omega
  · exact (Dat.toRRel_leaves (dats m 0 c) (fgt := forgets0) (Rl := Rl m c) (w := 18) rfl hl) s (by show s.val ≤ t.val - 1; omega) j hj

/-- After point `t`, its row stands too. -/
theorem left_18 (c : Dev nD) (t : Fin cfg0.N) (Y : Vec F S100x128 .f32) (h : (rdat m c).Finds 18 t Y) :
    Rl m c 18 t (putRow (grid0.coords t) Y (shAt m c t)) := by
  intro s hs j hj
  unfold putRow
  split
  · rename_i h'
    rw [coords_val] at h'
    have : s = t := Fin.ext (by omega)
    rw [this]
  · rename_i h'
    rw [coords_val] at h'
    exact found_18 m c t Y h s (by omega) j hj

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y)
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %h12, H12⟩, ⟨%Y13, %h13, H13⟩, ⟨%Y14, %h14, H14⟩, ⟨%Y15, %h15, H15⟩, ⟨%Y16, %h16, H16⟩, ⟨%Y17, %h17, H17⟩, ⟨%Y18, %h18, H18⟩⟩
  iapply (body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y14 Y16 Y18 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexists _; iexact H15
  isplitl [H16]; · iexact H16
  isplitl [H17]; · iexists _; iexact H17
  isplitl [H18]; · iexact H18
  isplitl [HS0]; · iexact HS0
  iintro ⟨H0, H1, H2, H3, H4, H5, H6, H7, H8, H9, H10, H11, H12, H13, H14, H15, H16, H17, H18, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact left_14 m c t Y14 h14
  isplitl [H15]
  · iexists _; isplitr; swap; · iexact H15
    ipureintro; exact rfl
  isplitl [H16]
  · iexists _; isplitr; swap; · iexact H16
    ipureintro; exact left_16 m c t Y16 h16
  isplitl [H17]
  · iexists _; isplitr; swap; · iexact H17
    ipureintro; exact rfl
  iexists _; isplitr; swap; · iexact H18
  ipureintro; exact left_18 m c t Y18 h18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run and the frame -/

set_option backward.isDefEq.respectTransparency.types false in
/-- The run: every array ends at contents that `Rl` allows, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_ofR m ρ (rdat m) (A_eq m) ((θ_run defs _ _).mono (fun _ h => h.1) (run_main_quiescent m ρ))

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.MlpIdeal.Run

end
-- ==== Proof.Spec.lean ====
/- What the quantiser, the layer norm, the linear layers and the gelu compute on one row, over the extended reals. -/
module

public import Idealize.ShloMosaic.Lib.Pointwise
public import Idealize.ShloMosaic.Lib.IdealHost

@[expose] public section

noncomputable section

namespace Cert.Spec

open Idealize.ShloMosaic

/-- The largest absolute value of a row. -/
def amax {n : ℕ} (v : Fin n → EReal) : EReal :=
  Finset.fold max (Ideal.ofBits FTy.f32 0xFF800000#32) (fun k => FloatOps.absf (F := Ideal) (φ := .f32) (v k)) Finset.univ

/-- The scale of a row: its largest absolute value over 448, or one where the row is zero. -/
def scale {n : ℕ} (v : Fin n → EReal) : EReal :=
  if 0 < amax v then Ideal.div (amax v) (Ideal.ofBits FTy.f32 0x43E00000#32) else 1

/-- The code of one entry of a row: the entry over the row's scale, clipped to ±448. -/
def code {n : ℕ} (v : Fin n → EReal) (k : Fin n) : EReal :=
  min (Ideal.ofBits FTy.f32 0x43E00000#32) (max (Ideal.ofBits FTy.f32 0xC3E00000#32) (Ideal.div (v k) (scale v)))

/-- One output of a linear layer on a quantised row: codes times weight codes, times both scales, plus the bias. -/
def lin {n : ℕ} (v : Fin n → EReal) (w : Fin n → EReal) (ws b : EReal) : EReal :=
  (∑ k, code v k * w k) * scale v * ws + b

/-- The mean of a row of 1280. -/
def mean (v : Fin 1280 → EReal) : EReal := Ideal.div (∑ k, v k) (Ideal.ofBits FTy.f32 0x44A00000#32)

/-- The standard deviation of a row of 1280, with the small constant under the root. -/
def den (v : Fin 1280 → EReal) : EReal :=
  Ideal.sqrt (Ideal.div (∑ k, (v k - mean v) * (v k - mean v)) (Ideal.ofBits FTy.f32 0x44A00000#32) + Ideal.ofBits FTy.f32 0x358637BD#32)

/-- The layer norm of a row, with the token's scale and shift. -/
def norm (v sc sh : Fin 1280 → EReal) (k : Fin 1280) : EReal := Ideal.div (v k - mean v) (den v) * (1 + sc k) + sh k

/-- The gelu in its tanh form. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * (z * z))))))

theorem ofBits_448 : Ideal.ofBits FTy.f32 0x43E00000#32 = ((448 : ℝ) : EReal) := by
  simp [Ideal.ofBits, Ideal.ieee, -EReal.coe_mul]; norm_num

theorem ofBits_1280 : Ideal.ofBits FTy.f32 0x44A00000#32 = ((1280 : ℝ) : EReal) := by
  simp [Ideal.ofBits, Ideal.ieee, -EReal.coe_mul]; norm_num

theorem ofBits_eps_pos : 0 < Ideal.ofBits FTy.f32 0x358637BD#32 := by
  have : Ideal.ofBits FTy.f32 0x358637BD#32 = ((8796093 / 2 ^ 43 : ℝ) : EReal) := by
    simp [Ideal.ofBits, Ideal.ieee, -EReal.coe_mul]; norm_num
  rw [this]; exact_mod_cast (by norm_num : (0 : ℝ) < 8796093 / 2 ^ 43)

/-- Multiplying by a reciprocal is dividing, where the divisor is not zero. -/
theorem mul_div_one {x y : EReal} (h : y ≠ 0) : x * Ideal.div 1 y = Ideal.div x y := by
  unfold Ideal.div; rw [if_neg h, if_neg h, one_mul]

theorem div_real_pos {x : EReal} {r : ℝ} (hr : 0 < r) (h : 0 < x) : 0 < Ideal.div x ((r : ℝ) : EReal) := by
  have h0 : ((r : ℝ) : EReal) ≠ 0 := by exact_mod_cast hr.ne'
  unfold Ideal.div; rw [if_neg h0, ← EReal.coe_inv]
  exact EReal.mul_pos h (by exact_mod_cast inv_pos.mpr hr)

theorem div_real_nonneg {x : EReal} {r : ℝ} (hr : 0 < r) (h : 0 ≤ x) : 0 ≤ Ideal.div x ((r : ℝ) : EReal) := by
  have h0 : ((r : ℝ) : EReal) ≠ 0 := by exact_mod_cast hr.ne'
  unfold Ideal.div; rw [if_neg h0, ← EReal.coe_inv]
  exact mul_nonneg h (by exact_mod_cast (inv_pos.mpr hr).le)

/-- A scale is never zero. -/
theorem scale_ne_zero {n : ℕ} (v : Fin n → EReal) : scale v ≠ 0 := by
  unfold scale
  split
  · rename_i h
    rw [ofBits_448]; exact (div_real_pos (by norm_num) h).ne'
  · exact one_ne_zero

theorem sq_nonneg (x : EReal) : 0 ≤ x * x := by
  induction x using EReal.rec with
  | bot => simp
  | top => simp
  | coe r => rw [← EReal.coe_mul]; exact_mod_cast mul_self_nonneg r

theorem sqrt_ne_zero {x : EReal} (h : 0 < x) : Ideal.sqrt x ≠ 0 := by
  induction x using EReal.rec with
  | bot => simp at h
  | top => exact EReal.top_ne_zero
  | coe r =>
    have hr : 0 < r := by exact_mod_cast h
    have : Ideal.sqrt ((r : ℝ) : EReal) = ((Real.sqrt r : ℝ) : EReal) := by
      show (if r < 0 then ⊥ else ((Real.sqrt r : ℝ) : EReal)) = _
      rw [if_neg (not_lt.mpr hr.le)]
    rw [this]; exact_mod_cast (Real.sqrt_pos.mpr hr).ne'

/-- The divisor of the layer norm is never zero. -/
theorem den_ne_zero (v : Fin 1280 → EReal) : den v ≠ 0 := by
  refine sqrt_ne_zero ?_
  rw [ofBits_1280]
  exact lt_of_lt_of_le ofBits_eps_pos (le_add_of_nonneg_left (div_real_nonneg (by norm_num) (Finset.sum_nonneg fun k _ => sq_nonneg _)))

/-- The gelu with its factors in another order. -/
theorem gelu_eq (z : EReal) :
    Ideal.ofBits FTy.f32 0x3F000000#32 * z * (1 + Ideal.tanh (Ideal.ofBits FTy.f32 0x3F4C422A#32 * (z + Ideal.ofBits FTy.f32 0x3D372713#32 * (z * z * z)))) = gelu z := by
  unfold gelu
  rw [mul_comm (Ideal.ofBits FTy.f32 0x3F000000#32) z, mul_assoc z, mul_assoc z z z]

/-- What one token's feed-forward block is computed from: the attention output `o`, the residual stream `x`, the token's
    modulation rows, and the three layers' weight codes, weight scales and biases. -/
structure Tok where
  o : Fin 1280 → EReal
  x : Fin 1280 → EReal
  g1 : Fin 1280 → EReal
  g2 : Fin 1280 → EReal
  sc : Fin 1280 → EReal
  sh : Fin 1280 → EReal
  wp : Fin 1280 → Fin 1280 → EReal
  wps : Fin 1280 → EReal
  bp : Fin 1280 → EReal
  w1 : Fin 1280 → Fin 5120 → EReal
  w1s : Fin 5120 → EReal
  b1 : Fin 5120 → EReal
  w2 : Fin 5120 → Fin 1280 → EReal
  w2s : Fin 1280 → EReal
  b2 : Fin 1280 → EReal

namespace Tok

variable (T : Tok)

/-- The residual stream after the output projection. -/
def mid (k : Fin 1280) : EReal := T.x k + T.g1 k * lin T.o (fun j => T.wp j k) (T.wps k) (T.bp k)
/-- The second layer norm. -/
def h2 (k : Fin 1280) : EReal := norm T.mid T.sc T.sh k
/-- The gelu of the first feed-forward layer. -/
def hid (k : Fin 5120) : EReal := gelu (lin T.h2 (fun j => T.w1 j k) (T.w1s k) (T.b1 k))
/-- The block's output. -/
def y (k : Fin 1280) : EReal := T.mid k + T.g2 k * lin T.hid (fun j => T.w2 j k) (T.w2s k) (T.b2 k)

end Tok

end Cert.Spec

end
-- ==== Proof.MlpPay.lean ====
/- The kernel's arithmetic, value by value, at an index. -/
module

public import proofs.«01_k».proof.Proof.Gen.MlpIdeal.Skeleton
public import proofs.«01_k».proof.Proof.Spec

@[expose] public section

set_option maxRecDepth 16384

noncomputable section

namespace Cert.MlpIdeal.Run

open Cert.MlpIdeal Cert.MlpIdeal.Gen Cert.Spec
open Idealize.ShloMosaic

theorem pay4_at (x : Vec Ideal S1x128x1280 .f32) (b : Fin 128) (q : Fin 1) :
    k0_pay4 (F := Ideal) x (ix2 b q) = scale (fun k : Fin 1280 => x (ix3 0 b k)) := by
  pointwise [k0_pay4, k0_pay3]
  rfl
theorem pay5_at (x : Vec Ideal S1x128x1280 .f32) (b : Fin 128) (k : Fin 1280) :
    k0_pay5 (F := Ideal) x (ix2 b k) = code (fun k : Fin 1280 => x (ix3 0 b k)) k := by
  pointwise [k0_pay5, k0_pay3]
  rw [pay4_at, mul_div_one (scale_ne_zero _)]
  rfl
theorem pay6_at (x : Vec Ideal S1x128x1280 .f32) (q : Fin 1) (b : Fin 128) (k : Fin 1280) :
    k0_pay6 (F := Ideal) x (ix3 q b k) = code (fun k : Fin 1280 => x (ix3 0 b k)) k := by
  pointwise [k0_pay6]
  exact pay5_at x b k
theorem pay7_at (x : Vec Ideal S1x128x1280 .f32) (q : Fin 1) (b : Fin 128) :
    k0_pay7 (F := Ideal) x (ix2 q b) = scale (fun k : Fin 1280 => x (ix3 0 b k)) := by
  pointwise [k0_pay7]
  exact pay4_at x b 0
theorem pay8_at (x : Vec Ideal S1x128x1280 .f32) (w) (b : Fin 128) (k : Fin 1280) :
    k0_pay8 (F := Ideal) x w (ix2 b k) = (∑ j : Fin 1280, code (fun k : Fin 1280 => x (ix3 0 b k)) j * w (ix2 j k)) * scale (fun k : Fin 1280 => x (ix3 0 b k)) := by
  pointwise [k0_pay8]
  simp only [pay4_at, pay5_at]
theorem pay9_at (a b c d e) (i : Fin 128) (k : Fin 1280) :
    k0_pay9 (F := Ideal) a b c d e (ix2 i k) = d (ix3 0 i k) + e (ix3 0 i k) * (a (ix2 i k) * b (ix2 0 k) + c (ix2 0 k)) := by
  pointwise [k0_pay9]
theorem pay11_at (a b c d e) (i : Fin 128) (k : Fin 1280) :
    k0_pay11 (F := Ideal) a b c d e (ix2 i k)
      = Ideal.div (k0_pay9 (F := Ideal) a b c d e (ix2 i k) - mean (fun k => k0_pay9 (F := Ideal) a b c d e (ix2 i k))) (den (fun k => k0_pay9 (F := Ideal) a b c d e (ix2 i k))) := by
  pointwise [k0_pay11]
  exact mul_div_one (den_ne_zero _)
theorem pay10_at (v : Vec Ideal S1x128x1280 .f32) (i : Fin 128) (k : Fin 1280) : k0_pay10 (F := Ideal) v (ix2 i k) = v (ix3 0 i k) := by
  pointwise [k0_pay10]
theorem pay12_at (v : Vec Ideal S1x128x1280 .f32) (i : Fin 128) (k : Fin 1280) : k0_pay12 (F := Ideal) v (ix2 i k) = 1 + v (ix3 0 i k) := by
  pointwise [k0_pay12]
theorem pay13_at (a b c) (i : Fin 128) (k : Fin 1280) : k0_pay13 (F := Ideal) a b c (ix2 i k) = b (ix2 i k) * c (ix2 i k) + a (ix2 i k) := by
  pointwise [k0_pay13]
theorem pay14_at (a b c) (i : Fin 128) (q : Fin 1) :
    k0_pay14 (F := Ideal) a b c (ix2 i q) = scale (fun k : Fin 1280 => k0_pay13 (F := Ideal) a b c (ix2 i k)) := by
  pointwise [k0_pay14]
  rfl
theorem pay15_at (a b c) (i : Fin 128) (k : Fin 1280) :
    k0_pay15 (F := Ideal) a b c (ix2 i k) = code (fun k : Fin 1280 => k0_pay13 (F := Ideal) a b c (ix2 i k)) k := by
  pointwise [k0_pay15]
  rw [pay14_at, mul_div_one (scale_ne_zero _)]
  rfl
theorem pay16_at (a b c) (q : Fin 1) (i : Fin 128) (k : Fin 1280) :
    k0_pay16 (F := Ideal) a b c (ix3 q i k) = code (fun k : Fin 1280 => k0_pay13 (F := Ideal) a b c (ix2 i k)) k := by
  pointwise [k0_pay16]
  exact pay15_at a b c i k
theorem pay17_at (a b c) (q : Fin 1) (i : Fin 128) :
    k0_pay17 (F := Ideal) a b c (ix2 q i) = scale (fun k : Fin 1280 => k0_pay13 (F := Ideal) a b c (ix2 i k)) := by
  pointwise [k0_pay17]
  exact pay14_at a b c i 0
theorem pay18_at (a b c w s) (i : Fin 128) (k : Fin 5120) :
    k0_pay18 (F := Ideal) a b c w s (ix2 i k)
      = (∑ j : Fin 1280, code (fun k : Fin 1280 => k0_pay13 (F := Ideal) a b c (ix2 i k)) j * w (ix2 j k)) * scale (fun k : Fin 1280 => k0_pay13 (F := Ideal) a b c (ix2 i k)) * s (ix2 0 k) := by
  pointwise [k0_pay18]
  simp only [pay14_at, pay15_at]
theorem pay19_at (v) (i : Fin 128) (k : Fin 5120) : k0_pay19 (F := Ideal) v (ix2 i k) = v (ix2 0 k) := by
  pointwise [k0_pay19]
theorem pay20_at (a b) (i : Fin 128) (k : Fin 5120) : k0_pay20 (F := Ideal) a b (ix2 i k) = gelu (a (ix2 i k) + b (ix2 i k)) := by
  pointwise [k0_pay20]
  exact gelu_eq _
theorem pay21_at (v : Vec Ideal S128x5120 .f32) (i : Fin 128) (q : Fin 1) :
    k0_pay21 (F := Ideal) v (ix2 i q) = scale (fun k : Fin 5120 => v (ix2 i k)) := by
  pointwise [k0_pay21]
  rfl
theorem pay22_at (v : Vec Ideal S128x5120 .f32) (i : Fin 128) (k : Fin 5120) :
    k0_pay22 (F := Ideal) v (ix2 i k) = code (fun k : Fin 5120 => v (ix2 i k)) k := by
  pointwise [k0_pay22]
  rw [pay21_at, mul_div_one (scale_ne_zero _)]
  rfl
theorem pay23_at (v : Vec Ideal S128x5120 .f32) (q : Fin 1) (i : Fin 128) (k : Fin 5120) :
    k0_pay23 (F := Ideal) v (ix3 q i k) = code (fun k : Fin 5120 => v (ix2 i k)) k := by
  pointwise [k0_pay23]
  exact pay22_at v i k
theorem pay1_at (v : Vec Ideal S128x5120 .f32) (q : Fin 1) (i : Fin 128) :
    k0_pay1 (F := Ideal) (k0_pay24 v) (ix2 q i) = scale (fun k : Fin 5120 => v (ix2 i k)) := by
  pointwise [k0_pay1, k0_pay24]
  exact pay21_at v i 0
theorem pay2_at (a s c w ws b g) (q : Fin 1) (i : Fin 128) (k : Fin 1280) :
    k0_pay2 (F := Ideal) a s c w ws b g (ix3 q i k)
      = a (ix2 i k) + g (ix3 0 i k) * ((∑ j : Fin 5120, c (ix2 i j) * w (ix2 j k)) * s (ix2 i 0) * ws (ix2 0 k) + b (ix2 0 k)) := by
  pointwise [k0_pay2]

end Cert.MlpIdeal.Run

end
-- ==== Proof.MlpKernel.lean ====
/- What one grid point of the kernel computes, entry by entry, is what `Spec.Tok` says of each of its tokens. -/
module

public import proofs.«01_k».proof.Proof.MlpRun
public import proofs.«01_k».proof.Proof.MlpPay

@[expose] public section

set_option maxRecDepth 16384

noncomputable section

namespace Cert.MlpIdeal.Run

open Cert.MlpIdeal Cert.MlpIdeal.Gen Cert.Spec
open Idealize.ShloMosaic

/-- Token `b` of the block of arguments. -/
def tokB (x0 : Vec Ideal S1x128x1280 .f32) (x1 : Vec Ideal S1x128x1280 .bf16) (x2 : Vec Ideal S6x128x1280 .f32) (x3 : Vec Ideal S1280x1280 .fp8e4m3) (x4 x5 : Vec Ideal S1x1280 .f32) (x6 : Vec Ideal S1280x5120 .fp8e4m3) (x7 x8 : Vec Ideal S1x5120 .f32) (x9 : Vec Ideal S5120x1280 .fp8e4m3) (x10 x11 : Vec Ideal S1x1280 .f32) (b : Fin 128) : Tok where
  o k := x0 (ix3 0 b k)
  x k := x1 (ix3 0 b k)
  g1 k := x2 (ix3 0 b k)
  g2 k := x2 (ix3 1 b k)
  sc k := x2 (ix3 3 b k)
  sh k := x2 (ix3 5 b k)
  wp j k := x3 (ix2 j k)
  wps k := x4 (ix2 0 k)
  bp k := x5 (ix2 0 k)
  w1 j k := x6 (ix2 j k)
  w1s k := x7 (ix2 0 k)
  b1 k := x8 (ix2 0 k)
  w2 j k := x9 (ix2 j k)
  w2s k := x10 (ix2 0 k)
  b2 k := x11 (ix2 0 k)

/-- One row of the modulation block. -/
theorem ld_row (x2 : Vec Ideal S6x128x1280 .f32) (o : ℕ) (r : Fin 6) (h : o = r.val) (inb) (b : Fin 128) (k : Fin 1280) :
    View.ld x2 (Rect.unit (s := S6x128x1280) ![o, 0, 0] S1x128x1280.size inb) (ix3 0 b k) = x2 (ix3 r b k) := by
  subst h
  refine congrArg x2 (funext fun a => Fin.ext ?_)
  match a with
  | ⟨0, _⟩ => exact Nat.add_zero _
  | ⟨1, _⟩ => show 0 + 1 * b.val = b.val; omega
  | ⟨2, _⟩ => show 0 + 1 * k.val = k.val; omega

variable {x0 : Vec Ideal S1x128x1280 .f32} {x1 : Vec Ideal S1x128x1280 .bf16} {x2 : Vec Ideal S6x128x1280 .f32} {x3 : Vec Ideal S1280x1280 .fp8e4m3} {x4 x5 : Vec Ideal S1x1280 .f32} {x6 : Vec Ideal S1280x5120 .fp8e4m3} {x7 x8 : Vec Ideal S1x5120 .f32} {x9 : Vec Ideal S5120x1280 .fp8e4m3} {x10 x11 : Vec Ideal S1x1280 .f32}

theorem midV_at (b : Fin 128) (k : Fin 1280) : midV x0 x1 x2 x3 x4 x5 x6 x7 x8 x9 x10 x11 (ix2 b k) = (tokB x0 x1 x2 x3 x4 x5 x6 x7 x8 x9 x10 x11 b).mid k := by
  unfold midV
  rw [pay9_at, pay8_at, ld_row x2 0 0 rfl]
  rfl
theorem h2_at (b : Fin 128) (k : Fin 1280) :
    k0_pay13 (shiftV x0 x1 x2 x3 x4 x5 x6 x7 x8 x9 x10 x11) (normV x0 x1 x2 x3 x4 x5 x6 x7 x8 x9 x10 x11) (gainV x0 x1 x2 x3 x4 x5 x6 x7 x8 x9 x10 x11) (ix2 b k) = (tokB x0 x1 x2 x3 x4 x5 x6 x7 x8 x9 x10 x11 b).h2 k := by
  rw [pay13_at]
  unfold shiftV normV gainV
  rw [pay11_at, pay10_at, pay12_at, ld_row x2 5 5 rfl, ld_row x2 3 3 rfl]
  have h : (fun k => k0_pay9 (k0_pay8 x0 x3) x4 x5 x1 (View.ld x2 (Rect.unit (s := S6x128x1280) ![0, 0, 0] S1x128x1280.size inb_S6x128x1280_S1x128x1280_0_0_0)) (ix2 b k)) = (tokB x0 x1 x2 x3 x4 x5 x6 x7 x8 x9 x10 x11 b).mid :=
    funext fun k => midV_at b k
  have h' := congrFun h k
  simp only at h'
  rw [h, h']
  rfl
theorem hid_at (b : Fin 128) (k : Fin 5120) : hidV x0 x1 x2 x3 x4 x5 x6 x7 x8 x9 x10 x11 (ix2 b k) = (tokB x0 x1 x2 x3 x4 x5 x6 x7 x8 x9 x10 x11 b).hid k := by
  unfold hidV
  rw [pay20_at, pay18_at, pay19_at]
  simp only [h2_at]
  rfl

theorem yBlock_at (q : Fin 1) (b : Fin 128) (k : Fin 1280) : yBlock x0 x1 x2 x3 x4 x5 x6 x7 x8 x9 x10 x11 (ix3 q b k) = (tokB x0 x1 x2 x3 x4 x5 x6 x7 x8 x9 x10 x11 b).y k := by
  unfold yBlock
  rw [pay2_at, ld_row x2 1 1 rfl]
  simp only [pay21_at, pay22_at, hid_at, midV_at]
  rfl
theorem coBlock_at (q : Fin 1) (b : Fin 128) (k : Fin 1280) : coBlock x0 x1 x2 x3 x4 x5 x6 x7 x8 x9 x10 x11 (ix3 q b k) = code (tokB x0 x1 x2 x3 x4 x5 x6 x7 x8 x9 x10 x11 b).o k := pay6_at x0 q b k
theorem soRow_at (q : Fin 1) (b : Fin 128) : soRow x0 x1 x2 x3 x4 x5 x6 x7 x8 x9 x10 x11 (ix2 q b) = scale (tokB x0 x1 x2 x3 x4 x5 x6 x7 x8 x9 x10 x11 b).o := pay7_at x0 q b
theorem c2Block_at (q : Fin 1) (b : Fin 128) (k : Fin 1280) : c2Block x0 x1 x2 x3 x4 x5 x6 x7 x8 x9 x10 x11 (ix3 q b k) = code (tokB x0 x1 x2 x3 x4 x5 x6 x7 x8 x9 x10 x11 b).h2 k := by
  unfold c2Block
  rw [pay16_at]
  simp only [h2_at]
theorem s2Row_at (q : Fin 1) (b : Fin 128) : s2Row x0 x1 x2 x3 x4 x5 x6 x7 x8 x9 x10 x11 (ix2 q b) = scale (tokB x0 x1 x2 x3 x4 x5 x6 x7 x8 x9 x10 x11 b).h2 := by
  unfold s2Row
  rw [pay17_at]
  simp only [h2_at]
theorem chBlock_at (q : Fin 1) (b : Fin 128) (k : Fin 5120) : chBlock x0 x1 x2 x3 x4 x5 x6 x7 x8 x9 x10 x11 (ix3 q b k) = code (tokB x0 x1 x2 x3 x4 x5 x6 x7 x8 x9 x10 x11 b).hid k := by
  unfold chBlock
  rw [pay23_at]
  simp only [hid_at]
theorem shRow_at (q : Fin 1) (b : Fin 128) : shRow x0 x1 x2 x3 x4 x5 x6 x7 x8 x9 x10 x11 (ix2 q b) = scale (tokB x0 x1 x2 x3 x4 x5 x6 x7 x8 x9 x10 x11 b).hid := by
  unfold shRow
  rw [pay1_at]
  simp only [hid_at]

end Cert.MlpIdeal.Run

end
-- ==== Proof.MlpTok.lean ====
/- One token of the feed-forward block, read from the argument arrays. -/
module

public import proofs.«01_k».proof.Proof.Spec

@[expose] public section

noncomputable section

namespace Cert.Spec

/-- Position `s` of sample `b`: the attention output `o` and the residual stream `x` there, the sample's modulation rows
    `ada`, and the weights; the projection's weight has its 1280 rows given as 20 heads of 64. -/
def argTok (x : Fin 128 → Fin 100 → Fin 1280 → EReal) (ada : Fin 128 → Fin 6 → Fin 1280 → EReal) (o : Fin 128 → Fin 100 → Fin 1280 → EReal)
    (wp : Fin 20 → Fin 64 → Fin 1280 → EReal) (wps bp : Fin 1280 → EReal) (w1 : Fin 1280 → Fin 5120 → EReal) (w1s b1 : Fin 5120 → EReal)
    (w2 : Fin 5120 → Fin 1280 → EReal) (w2s b2 : Fin 1280 → EReal) (s : Fin 100) (b : Fin 128) : Tok where
  o k := o b s k
  x k := x b s k
  g1 k := ada b 0 k
  g2 k := ada b 1 k
  sc k := ada b 3 k
  sh k := ada b 5 k
  wp j k := wp ⟨j.val / 64, by omega⟩ ⟨j.val % 64, by omega⟩ k
  wps := wps
  bp := bp
  w1 := w1
  w1s := w1s
  b1 := b1
  w2 := w2
  w2s := w2s
  b2 := b2

end Cert.Spec

end
-- ==== Proof.MlpRead.lean ====
/- What each grid point of the kernel reads, in terms of the argument arrays. -/
module

public import proofs.«01_k».proof.Proof.Gen.MlpIdeal.Frame
public import proofs.«01_k».proof.Proof.MlpTok
public import Idealize.ShloMosaic.Lib.Pipeline.ValueKit
public import Idealize.ShloMosaic.Lib.Pipeline.ArrRel

@[expose] public section

set_option maxRecDepth 16384

noncomputable section

namespace Cert.MlpIdeal.Run

open Cert.MlpIdeal Cert.MlpIdeal.Gen Cert.Spec
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- Token `(s, b)` of the argument arrays. -/
def tok (c : Dev nD) (s : Fin 100) (b : Fin 128) : Tok :=
  argTok (fun b s k => m ((c : Thread nD τ).loc main_arg0) (ix3 b s k)) (fun b s k => m ((c : Thread nD τ).loc main_arg1) (ix3 b s k))
    (fun b s k => m ((c : Thread nD τ).loc main_arg2) (ix3 b s k)) (fun b s k => m ((c : Thread nD τ).loc main_arg3) (ix3 b s k))
    (fun k => m ((c : Thread nD τ).loc main_arg4) (ix1 k)) (fun k => m ((c : Thread nD τ).loc main_arg5) (ix1 k))
    (fun j k => m ((c : Thread nD τ).loc main_arg6) (ix2 j k)) (fun k => m ((c : Thread nD τ).loc main_arg7) (ix1 k)) (fun k => m ((c : Thread nD τ).loc main_arg8) (ix1 k))
    (fun j k => m ((c : Thread nD τ).loc main_arg9) (ix2 j k)) (fun k => m ((c : Thread nD τ).loc main_arg10) (ix1 k)) (fun k => m ((c : Thread nD τ).loc main_arg11) (ix1 k)) s b

/-- Where each window's block lies at grid point `t`. -/
theorem idx : ∀ t : Fin cfg0.N, win0_0.index t = ![t.val, 0, 0] ∧ win0_1.index t = ![t.val, 0, 0] ∧ win0_2.index t = ![0, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0, 0] ∧ win0_13.index t = ![t.val, 0, 0] ∧ win0_15.index t = ![t.val, 0, 0] ∧ win0_17.index t = ![t.val, 0, 0] :=
  (by decide +kernel : ∀ t : Fin grid0.N, _)

/-- Grid point `t` is row `t`. -/
def tIx (t : Fin cfg0.N) : Fin 100 := ⟨t.val, t.isLt⟩

theorem read_0 (c : Dev nD) (t : Fin cfg0.N) (b : Fin 128) (k : Fin 1280) : iblk m c 0 t (ix3 0 b k) = m ((c : Thread nD τ).loc main_arg2) (ix3 b (tIx t) k) := by
  have h := idx t
  blk_ext! [iblk, V, h, tIx]
theorem read_1 (c : Dev nD) (t : Fin cfg0.N) (b : Fin 128) (k : Fin 1280) : iblk m c 1 t (ix3 0 b k) = m ((c : Thread nD τ).loc main_arg0) (ix3 b (tIx t) k) := by
  have h := idx t
  blk_ext! [iblk, V, h, tIx]
theorem read_2 (c : Dev nD) (t : Fin cfg0.N) (r : Fin 6) (b : Fin 128) (k : Fin 1280) : iblk m c 2 t (ix3 r b k) = m ((c : Thread nD τ).loc main_arg1) (ix3 b r k) := by
  have h := idx t
  blk_ext! [iblk, V, h, tIx]
theorem read_3 (c : Dev nD) (t : Fin cfg0.N) (j k : Fin 1280) : iblk m c 3 t (ix2 j k) = m ((c : Thread nD τ).loc main_arg3) (ix3 ⟨j.val / 64, by omega⟩ ⟨j.val % 64, by omega⟩ k) := by
  have h := idx t
  blk_ext! [iblk, V, h, tIx]
theorem read_4 (c : Dev nD) (t : Fin cfg0.N) (k : Fin 1280) : iblk m c 4 t (ix2 0 k) = m ((c : Thread nD τ).loc main_arg4) (ix1 k) := by
  have h := idx t
  blk_ext! [iblk, V, h, tIx]
theorem read_5 (c : Dev nD) (t : Fin cfg0.N) (k : Fin 1280) : iblk m c 5 t (ix2 0 k) = m ((c : Thread nD τ).loc main_arg5) (ix1 k) := by
  have h := idx t
  blk_ext! [iblk, V, h, tIx]
theorem read_6 (c : Dev nD) (t : Fin cfg0.N) (j : Fin 1280) (k : Fin 5120) : iblk m c 6 t (ix2 j k) = m ((c : Thread nD τ).loc main_arg6) (ix2 j k) := by
  have h := idx t
  blk_ext! [iblk, V, h, tIx]
theorem read_7 (c : Dev nD) (t : Fin cfg0.N) (k : Fin 5120) : iblk m c 7 t (ix2 0 k) = m ((c : Thread nD τ).loc main_arg7) (ix1 k) := by
  have h := idx t
  blk_ext! [iblk, V, h, tIx]
theorem read_8 (c : Dev nD) (t : Fin cfg0.N) (k : Fin 5120) : iblk m c 8 t (ix2 0 k) = m ((c : Thread nD τ).loc main_arg8) (ix1 k) := by
  have h := idx t
  blk_ext! [iblk, V, h, tIx]
theorem read_9 (c : Dev nD) (t : Fin cfg0.N) (j : Fin 5120) (k : Fin 1280) : iblk m c 9 t (ix2 j k) = m ((c : Thread nD τ).loc main_arg9) (ix2 j k) := by
  have h := idx t
  blk_ext! [iblk, V, h, tIx]
theorem read_10 (c : Dev nD) (t : Fin cfg0.N) (k : Fin 1280) : iblk m c 10 t (ix2 0 k) = m ((c : Thread nD τ).loc main_arg10) (ix1 k) := by
  have h := idx t
  blk_ext! [iblk, V, h, tIx]
theorem read_11 (c : Dev nD) (t : Fin cfg0.N) (k : Fin 1280) : iblk m c 11 t (ix2 0 k) = m ((c : Thread nD τ).loc main_arg11) (ix1 k) := by
  have h := idx t
  blk_ext! [iblk, V, h, tIx]

end Cert.MlpIdeal.Run

end
-- ==== Proof.MlpArray.lean ====
/- What the kernel leaves in its seven result arrays, index by index, from the argument arrays. -/
module

public import proofs.«01_k».proof.Proof.MlpFrame
public import proofs.«01_k».proof.Proof.MlpKernel
public import proofs.«01_k».proof.Proof.MlpRead
public import Idealize.ShloMosaic.Lib.Pipeline.ValueKit
public import Idealize.ShloMosaic.Lib.Pipeline.ArrRel

@[expose] public section

set_option maxRecDepth 16384

noncomputable section

namespace Cert.MlpIdeal.Run

open Cert.MlpIdeal Cert.MlpIdeal.Gen Cert.Spec
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- Token `b` of the blocks at point `t` is token `(t, b)` of the arrays. -/
theorem tokB_eq (c : Dev nD) (t : Fin cfg0.N) (b : Fin 128) : tokB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) b = tok m c (tIx t) b := by
  unfold tokB tok argTok
  simp only [read_0, read_1, read_2, read_3, read_4, read_5, read_6, read_7, read_8, read_9, read_10, read_11]

/-- The first result, as an array. -/
def yArr (c : Dev nD) : Vec Ideal S100x128x1280 .bf16 := fun i => (tok m c (i 0) (i 1)).y (i 2)
theorem yAt_eq (c : Dev nD) (t : Fin cfg0.N) (q : Fin 1) (b : Fin 128) (k : Fin 1280) : yAt m c t (ix3 q b k) = (tok m c (tIx t) b).y k := by
  unfold yAt
  rw [yBlock_at, tokB_eq]
/-- The codes of the attention output, as an array. -/
def coArr (c : Dev nD) : Vec Ideal S100x128x1280 .fp8e4m3 := fun i => code (tok m c (i 0) (i 1)).o (i 2)
theorem coAt_eq (c : Dev nD) (t : Fin cfg0.N) (q : Fin 1) (b : Fin 128) (k : Fin 1280) : coAt m c t (ix3 q b k) = code (tok m c (tIx t) b).o k := by
  unfold coAt
  rw [coBlock_at, tokB_eq]
/-- The scales of the attention output, as an array. -/
def soArr (c : Dev nD) : Vec Ideal S100x128 .f32 := fun i => scale (tok m c (i 0) (i 1)).o
theorem soAt_eq (c : Dev nD) (t : Fin cfg0.N) (q : Fin 1) (b : Fin 128) : soAt m c t (ix2 q b) = scale (tok m c (tIx t) b).o := by
  unfold soAt
  rw [soRow_at, tokB_eq]
/-- The codes of the second layer norm, as an array. -/
def c2Arr (c : Dev nD) : Vec Ideal S100x128x1280 .fp8e4m3 := fun i => code (tok m c (i 0) (i 1)).h2 (i 2)
theorem c2At_eq (c : Dev nD) (t : Fin cfg0.N) (q : Fin 1) (b : Fin 128) (k : Fin 1280) : c2At m c t (ix3 q b k) = code (tok m c (tIx t) b).h2 k := by
  unfold c2At
  rw [c2Block_at, tokB_eq]
/-- The scales of the second layer norm, as an array. -/
def s2Arr (c : Dev nD) : Vec Ideal S100x128 .f32 := fun i => scale (tok m c (i 0) (i 1)).h2
theorem s2At_eq (c : Dev nD) (t : Fin cfg0.N) (q : Fin 1) (b : Fin 128) : s2At m c t (ix2 q b) = scale (tok m c (tIx t) b).h2 := by
  unfold s2At
  rw [s2Row_at, tokB_eq]
/-- The codes of the gelu, as an array. -/
def chArr (c : Dev nD) : Vec Ideal S100x128x5120 .fp8e4m3 := fun i => code (tok m c (i 0) (i 1)).hid (i 2)
theorem chAt_eq (c : Dev nD) (t : Fin cfg0.N) (q : Fin 1) (b : Fin 128) (k : Fin 5120) : chAt m c t (ix3 q b k) = code (tok m c (tIx t) b).hid k := by
  unfold chAt
  rw [chBlock_at, tokB_eq]
/-- The scales of the gelu, as an array. -/
def shArr (c : Dev nD) : Vec Ideal S100x128 .f32 := fun i => scale (tok m c (i 0) (i 1)).hid
theorem shAt_eq (c : Dev nD) (t : Fin cfg0.N) (q : Fin 1) (b : Fin 128) : shAt m c t (ix2 q b) = scale (tok m c (tIx t) b).hid := by
  unfold shAt
  rw [shRow_at, tokB_eq]

/-- The last grid point. -/
def tLast : Fin cfg0.N := ⟨99, by decide⟩

/-- The block of point `t` is row `t` of the array. -/
theorem yAt_arr (c : Dev nD) (t : Fin cfg0.N) (y : S1x128x1280.Idx) (j : S100x128x1280.Idx) (h0 : (j 0).val = t.val) (h1 : (j 1).val = (y 1).val)
    (h2 : (j 2).val = (y 2).val) : yAt m c t y = yArr m c j := by
  have hy : y = ix3 (y 0) (y 1) (y 2) := (ix3_eta y).symm
  have e0 : (j 0 : Fin 100) = tIx t := Fin.ext h0
  have e1 : (j 1 : Fin 128) = y 1 := Fin.ext h1
  have e2 : (j 2 : Fin 1280) = y 2 := Fin.ext h2
  refine (congrArg (yAt m c t) hy).trans ((yAt_eq m c t _ _ _).trans ?_)
  unfold yArr
  rw [e0, e1, e2]
/-- The whole array after the run. -/
theorem y_array (r : PUnit × MemSt nD τ sig (Elt Ideal)) (h : Pipeline.RDat.FramePost (cfgs 0) (rdat m) (V m) r) (c : Dev nD) :
    r.2.mem ((c : Thread nD τ).loc main_v10_0) = yArr m c := by
  obtain ⟨after, ha, hm⟩ := Pipeline.RDat.FramePost.exists_exact h c
  refine (hm 12).trans ?_
  refine Dat.arrAt_eq_of_covers _ 12 _ (by decide +kernel) fun t hf y => ?_
  have hl := ha 12 t hf
  have hl' : after 12 t = yAt m c t := Dat.toRRel_leaves (dats m 0 c) (fgt := forgets0) (Rl := Rl m c) (w := 12) rfl hl
  have hi := idx t
  show after 12 t y = yArr m c ((win0_12.blk t).view.emb y)
  rw [hl']
  refine yAt_arr m c t y _ ?_ ?_ ?_ <;> (blk_simp [hi]; try omega)
/-- The block of point `t` is row `t` of the array. -/
theorem coAt_arr (c : Dev nD) (t : Fin cfg0.N) (y : S1x128x1280.Idx) (j : S100x128x1280.Idx) (h0 : (j 0).val = t.val) (h1 : (j 1).val = (y 1).val)
    (h2 : (j 2).val = (y 2).val) : coAt m c t y = coArr m c j := by
  have hy : y = ix3 (y 0) (y 1) (y 2) := (ix3_eta y).symm
  have e0 : (j 0 : Fin 100) = tIx t := Fin.ext h0
  have e1 : (j 1 : Fin 128) = y 1 := Fin.ext h1
  have e2 : (j 2 : Fin 1280) = y 2 := Fin.ext h2
  refine (congrArg (coAt m c t) hy).trans ((coAt_eq m c t _ _ _).trans ?_)
  unfold coArr
  rw [e0, e1, e2]
/-- The whole array after the run. -/
theorem co_array (r : PUnit × MemSt nD τ sig (Elt Ideal)) (h : Pipeline.RDat.FramePost (cfgs 0) (rdat m) (V m) r) (c : Dev nD) :
    r.2.mem ((c : Thread nD τ).loc main_v10_1) = coArr m c := by
  obtain ⟨after, ha, hm⟩ := Pipeline.RDat.FramePost.exists_exact h c
  refine (hm 13).trans ?_
  refine Dat.arrAt_eq_of_covers _ 13 _ (by decide +kernel) fun t hf y => ?_
  have hl := ha 13 t hf
  have hl' : after 13 t = coAt m c t := Dat.toRRel_leaves (dats m 0 c) (fgt := forgets0) (Rl := Rl m c) (w := 13) rfl hl
  have hi := idx t
  show after 13 t y = coArr m c ((win0_13.blk t).view.emb y)
  rw [hl']
  refine coAt_arr m c t y _ ?_ ?_ ?_ <;> (blk_simp [hi]; try omega)
/-- The row of point `t` is row `t` of the array. -/
theorem soAt_arr (c : Dev nD) (t : Fin cfg0.N) (j : S100x128.Idx) (h0 : (j 0).val = t.val) : soAt m c t (ix2 0 (j 1)) = soArr m c j := by
  have e0 : (j 0 : Fin 100) = tIx t := Fin.ext h0
  refine (soAt_eq m c t _ _).trans ?_
  unfold soArr
  rw [e0]
/-- The whole array after the run. -/
theorem so_array (r : PUnit × MemSt nD τ sig (Elt Ideal)) (h : Pipeline.RDat.FramePost (cfgs 0) (rdat m) (V m) r) (c : Dev nD) :
    r.2.mem ((c : Thread nD τ).loc main_v10_2) = soArr m c := by
  obtain ⟨after, ha, hm⟩ := Pipeline.RDat.FramePost.exists_exact h c
  refine (hm 14).trans ?_
  refine Dat.arrAt_eq_of_after_last _ 14 tLast (by decide +kernel) _ fun j => ?_
  have hl := ha 14 tLast ((flush0_14 tLast).mpr rfl)
  have hl' := Dat.toRRel_leaves (dats m 0 c) (fgt := forgets0) (Rl := Rl m c) (w := 14) rfl hl
  have hr : (j 0).val < 100 := (j 0).isLt
  show after 14 tLast j = soArr m c j
  exact (hl' ⟨(j 0).val, hr⟩ (by show (j 0).val ≤ 99; omega) j rfl).trans (soAt_arr m c _ j rfl)
/-- The block of point `t` is row `t` of the array. -/
theorem c2At_arr (c : Dev nD) (t : Fin cfg0.N) (y : S1x128x1280.Idx) (j : S100x128x1280.Idx) (h0 : (j 0).val = t.val) (h1 : (j 1).val = (y 1).val)
    (h2 : (j 2).val = (y 2).val) : c2At m c t y = c2Arr m c j := by
  have hy : y = ix3 (y 0) (y 1) (y 2) := (ix3_eta y).symm
  have e0 : (j 0 : Fin 100) = tIx t := Fin.ext h0
  have e1 : (j 1 : Fin 128) = y 1 := Fin.ext h1
  have e2 : (j 2 : Fin 1280) = y 2 := Fin.ext h2
  refine (congrArg (c2At m c t) hy).trans ((c2At_eq m c t _ _ _).trans ?_)
  unfold c2Arr
  rw [e0, e1, e2]
/-- The whole array after the run. -/
theorem c2_array (r : PUnit × MemSt nD τ sig (Elt Ideal)) (h : Pipeline.RDat.FramePost (cfgs 0) (rdat m) (V m) r) (c : Dev nD) :
    r.2.mem ((c : Thread nD τ).loc main_v10_3) = c2Arr m c := by
  obtain ⟨after, ha, hm⟩ := Pipeline.RDat.FramePost.exists_exact h c
  refine (hm 15).trans ?_
  refine Dat.arrAt_eq_of_covers _ 15 _ (by decide +kernel) fun t hf y => ?_
  have hl := ha 15 t hf
  have hl' : after 15 t = c2At m c t := Dat.toRRel_leaves (dats m 0 c) (fgt := forgets0) (Rl := Rl m c) (w := 15) rfl hl
  have hi := idx t
  show after 15 t y = c2Arr m c ((win0_15.blk t).view.emb y)
  rw [hl']
  refine c2At_arr m c t y _ ?_ ?_ ?_ <;> (blk_simp [hi]; try omega)
/-- The row of point `t` is row `t` of the array. -/
theorem s2At_arr (c : Dev nD) (t : Fin cfg0.N) (j : S100x128.Idx) (h0 : (j 0).val = t.val) : s2At m c t (ix2 0 (j 1)) = s2Arr m c j := by
  have e0 : (j 0 : Fin 100) = tIx t := Fin.ext h0
  refine (s2At_eq m c t _ _).trans ?_
  unfold s2Arr
  rw [e0]
/-- The whole array after the run. -/
theorem s2_array (r : PUnit × MemSt nD τ sig (Elt Ideal)) (h : Pipeline.RDat.FramePost (cfgs 0) (rdat m) (V m) r) (c : Dev nD) :
    r.2.mem ((c : Thread nD τ).loc main_v10_4) = s2Arr m c := by
  obtain ⟨after, ha, hm⟩ := Pipeline.RDat.FramePost.exists_exact h c
  refine (hm 16).trans ?_
  refine Dat.arrAt_eq_of_after_last _ 16 tLast (by decide +kernel) _ fun j => ?_
  have hl := ha 16 tLast ((flush0_16 tLast).mpr rfl)
  have hl' := Dat.toRRel_leaves (dats m 0 c) (fgt := forgets0) (Rl := Rl m c) (w := 16) rfl hl
  have hr : (j 0).val < 100 := (j 0).isLt
  show after 16 tLast j = s2Arr m c j
  exact (hl' ⟨(j 0).val, hr⟩ (by show (j 0).val ≤ 99; omega) j rfl).trans (s2At_arr m c _ j rfl)
/-- The block of point `t` is row `t` of the array. -/
theorem chAt_arr (c : Dev nD) (t : Fin cfg0.N) (y : S1x128x5120.Idx) (j : S100x128x5120.Idx) (h0 : (j 0).val = t.val) (h1 : (j 1).val = (y 1).val)
    (h2 : (j 2).val = (y 2).val) : chAt m c t y = chArr m c j := by
  have hy : y = ix3 (y 0) (y 1) (y 2) := (ix3_eta y).symm
  have e0 : (j 0 : Fin 100) = tIx t := Fin.ext h0
  have e1 : (j 1 : Fin 128) = y 1 := Fin.ext h1
  have e2 : (j 2 : Fin 5120) = y 2 := Fin.ext h2
  refine (congrArg (chAt m c t) hy).trans ((chAt_eq m c t _ _ _).trans ?_)
  unfold chArr
  rw [e0, e1, e2]
/-- The whole array after the run. -/
theorem ch_array (r : PUnit × MemSt nD τ sig (Elt Ideal)) (h : Pipeline.RDat.FramePost (cfgs 0) (rdat m) (V m) r) (c : Dev nD) :
    r.2.mem ((c : Thread nD τ).loc main_v10_5) = chArr m c := by
  obtain ⟨after, ha, hm⟩ := Pipeline.RDat.FramePost.exists_exact h c
  refine (hm 17).trans ?_
  refine Dat.arrAt_eq_of_covers _ 17 _ (by decide +kernel) fun t hf y => ?_
  have hl := ha 17 t hf
  have hl' : after 17 t = chAt m c t := Dat.toRRel_leaves (dats m 0 c) (fgt := forgets0) (Rl := Rl m c) (w := 17) rfl hl
  have hi := idx t
  show after 17 t y = chArr m c ((win0_17.blk t).view.emb y)
  rw [hl']
  refine chAt_arr m c t y _ ?_ ?_ ?_ <;> (blk_simp [hi]; try omega)
/-- The row of point `t` is row `t` of the array. -/
theorem shAt_arr (c : Dev nD) (t : Fin cfg0.N) (j : S100x128.Idx) (h0 : (j 0).val = t.val) : shAt m c t (ix2 0 (j 1)) = shArr m c j := by
  have e0 : (j 0 : Fin 100) = tIx t := Fin.ext h0
  refine (shAt_eq m c t _ _).trans ?_
  unfold shArr
  rw [e0]
/-- The whole array after the run. -/
theorem sh_array (r : PUnit × MemSt nD τ sig (Elt Ideal)) (h : Pipeline.RDat.FramePost (cfgs 0) (rdat m) (V m) r) (c : Dev nD) :
    r.2.mem ((c : Thread nD τ).loc main_v10_6) = shArr m c := by
  obtain ⟨after, ha, hm⟩ := Pipeline.RDat.FramePost.exists_exact h c
  refine (hm 18).trans ?_
  refine Dat.arrAt_eq_of_after_last _ 18 tLast (by decide +kernel) _ fun j => ?_
  have hl := ha 18 tLast ((flush0_18 tLast).mpr rfl)
  have hl' := Dat.toRRel_leaves (dats m 0 c) (fgt := forgets0) (Rl := Rl m c) (w := 18) rfl hl
  have hr : (j 0).val < 100 := (j 0).isLt
  show after 18 tLast j = shArr m c j
  exact (hl' ⟨(j 0).val, hr⟩ (by show (j 0).val ≤ 99; omega) j rfl).trans (shAt_arr m c _ j rfl)

end Cert.MlpIdeal.Run

end
-- ==== Proof.MaxAt.lean ====
/- The largest absolute value along the last axis, read at an index, for any sizes. -/
module

public import proofs.«01_k».proof.Proof.Spec

@[expose] public section

noncomputable section

namespace Cert.Spec

open Idealize.ShloMosaic

/-- The maximum of absolute values over the last of three axes, at an index, is the row's `amax`. -/
theorem amax_at3 {n0 n1 n2 : ℕ} (v : FVec Ideal ⟨3, ![n0, n1, n2]⟩ .f32) (h : (⟨3, ![n0, n1, n2]⟩ : Shape).Reduces [2] ⟨2, ![n0, n1]⟩)
    (hφ : FKind.Formats .f32) (hacc : (0xFF800000#32 : BitVec 32) = FKind.maximumf.neutral .f32 hφ) (i : Fin n0) (j : Fin n1) :
    multiReduction .maximumf [2] ⟨2, ![n0, n1]⟩ (absf v) 0xFF800000#32 h hφ hacc (ix2 i j) = amax (fun k : Fin n2 => v (ix3 i j k)) := by
  pointwise
  rfl

/-- The maximum of absolute values over the last of two axes, at an index, is the row's `amax`. -/
theorem amax_at2 {n0 n1 : ℕ} (v : FVec Ideal ⟨2, ![n0, n1]⟩ .f32) (h : (⟨2, ![n0, n1]⟩ : Shape).Reduces [1] ⟨1, ![n0]⟩)
    (hφ : FKind.Formats .f32) (hacc : (0xFF800000#32 : BitVec 32) = FKind.maximumf.neutral .f32 hφ) (i : Fin n0) :
    multiReduction .maximumf [1] ⟨1, ![n0]⟩ (absf v) 0xFF800000#32 h hφ hacc (ix1 i) = amax (fun k : Fin n1 => v (ix2 i k)) := by
  pointwise
  rfl

/-- A scale computed from a row's `amax`. -/
theorem scale_of {n : ℕ} (v : Fin n → EReal) {a : EReal} (h : a = amax v) :
    (if 0 < a then Ideal.div a (Ideal.ofBits FTy.f32 0x43E00000#32) else 1) = scale v := by
  subst h; rfl

/-- A vector of scales, computed from a vector of `amax`es, at an index. -/
theorem scale_select {s : Shape} (M : FVec Ideal s .f32) (i : s.Idx) {n : ℕ} (v : Fin n → EReal) (h : M i = amax v) :
    select (cmpf .ogt M (broadcast s (Scalar.ofBits (F := Ideal) .f32 0x00000000#32))) (divf M (broadcast s (Scalar.ofBits (F := Ideal) .f32 0x43E00000#32)))
      (broadcast s (Scalar.ofBits (F := Ideal) .f32 0x3F800000#32)) i = scale v := by
  refine Eq.trans ?_ (scale_of _ h)
  pointwise

end Cert.Spec

end
-- ==== Proof.RefPay.lean ====
/- The reference's arithmetic, value by value, at an index. -/
module

public import proofs.«01_k».proof.Proof.Gen.MlpReferenceIdeal.Skeleton
public import proofs.«01_k».proof.Proof.MaxAt
public import Idealize.ShloMosaic.Lib.Pipeline.Value

@[expose] public section

set_option maxRecDepth 16384

noncomputable section

namespace Cert.MlpReferenceIdeal.Val

open Cert.MlpReferenceIdeal Cert.MlpReferenceIdeal.Gen Cert.Spec
open Idealize.ShloMosaic

theorem code_def {n : ℕ} (v : Fin n → EReal) (k : Fin n) : code v k
    = min (Ideal.ofBits FTy.f32 0x43E00000#32) (max (Ideal.ofBits FTy.f32 0xC3E00000#32) (Ideal.div (v k) (scale v))) := rfl
theorem pay1_eq (v : Vec Ideal S100x128x1280 .bf16) : k0_pay1 (F := Ideal) v = v := by
  unfold k0_pay1; simp only [shapeCast_self]; rfl
theorem pay2_eq (v : Vec Ideal S6x128x1280 .f32) : k0_pay2 (F := Ideal) v = v := by
  unfold k0_pay2; simp only [shapeCast_self]
theorem pay7_eq (v : Vec Ideal S100x128x1280 .f32) : k0_pay7 (F := Ideal) v = v := by
  unfold k0_pay7; simp only [shapeCast_self]
theorem pay10_eq (v : Vec Ideal S1280x1280 .fp8e4m3) : k0_pay10 (F := Ideal) v = v := by
  unfold k0_pay10; simp only [shapeCast_self]
theorem pay11_eq (v : Vec Ideal S1x1x1280 .f32) : k0_pay11 (F := Ideal) v = v := by
  unfold k0_pay11; simp only [shapeCast_self]
theorem pay3_at (v : Vec Ideal S6x128x1280 .f32) (q : Fin 1) (b : Fin 128) (k : Fin 1280) : k0_pay3 (F := Ideal) v (ix3 q b k) = v (ix3 0 b k) := by
  unfold k0_pay3
  rw [pay2_eq]
  pointwise
theorem pay4_at (v : Vec Ideal S6x128x1280 .f32) (q : Fin 1) (b : Fin 128) (k : Fin 1280) : k0_pay4 (F := Ideal) v (ix3 q b k) = v (ix3 1 b k) := by
  unfold k0_pay4
  rw [pay2_eq]
  pointwise
theorem pay5_at (v : Vec Ideal S6x128x1280 .f32) (q : Fin 1) (b : Fin 128) (k : Fin 1280) : k0_pay5 (F := Ideal) v (ix3 q b k) = v (ix3 3 b k) := by
  unfold k0_pay5
  rw [pay2_eq]
  pointwise
theorem pay6_at (v : Vec Ideal S6x128x1280 .f32) (q : Fin 1) (b : Fin 128) (k : Fin 1280) : k0_pay6 (F := Ideal) v (ix3 q b k) = v (ix3 5 b k) := by
  unfold k0_pay6
  rw [pay2_eq]
  pointwise
theorem pay8_at (x : Vec Ideal S100x128x1280 .f32) (s : Fin 100) (b : Fin 128) :
    k0_pay8 (F := Ideal) x (ix2 s b) = scale (fun k : Fin 1280 => x (ix3 s b k)) := by
  unfold k0_pay8
  rw [pay7_eq]
  exact scale_select _ _ _ (amax_at3 x reduces_S100x128x1280_S100x128 (.inl rfl) rfl s b)
theorem pay9_at (x : Vec Ideal S100x128x1280 .f32) (s : Fin 100) (b : Fin 128) (k : Fin 1280) :
    k0_pay9 (F := Ideal) x (ix3 s b k) = code (fun k : Fin 1280 => x (ix3 s b k)) k := by
  have key : ∀ (M : FVec Ideal S100x128 .f32), M (ix2 s b) = scale (fun k : Fin 1280 => x (ix3 s b k)) →
      (truncf .fp8e4m3 (minimumf (broadcast S100x128x1280 (Scalar.ofBits (F := Ideal) .f32 0x43E00000#32)) (maximumf (broadcast S100x128x1280 (Scalar.ofBits (F := Ideal) .f32 0xC3E00000#32)) (divf x (broadcastTo S100x128x1280 (shapeCast S100x128x1 M shapeCasts_S100x128_S100x128x1) broadcasts_S100x128x1_S100x128x1280)))) bitsLt_fp8e4m3_f32 : FVec Ideal S100x128x1280 .fp8e4m3) (ix3 s b k)
        = code (fun k : Fin 1280 => x (ix3 s b k)) k := by
    intro M hM
    rw [code_def, ← hM]
    pointwise
  unfold k0_pay9
  rw [pay7_eq]
  exact key _ (pay8_at x s b)
theorem pay12_at (a b c d e f g) (s : Fin 100) (t : Fin 128) (k : Fin 1280) :
    k0_pay12 (F := Ideal) a b c d e f g (ix3 s t k)
      = a (ix3 s t k) + b (ix3 0 t k) * ((∑ x : Fin 1280, d (ix3 s t x) * e (ix2 x k)) * c (ix2 s t) * f (ix3 0 0 k) + g (ix3 0 0 k)) := by
  pointwise [k0_pay12]
theorem pay13_at (a b c d e f g h i) (s : Fin 100) (t : Fin 128) (k : Fin 1280) :
    k0_pay13 (F := Ideal) a b c d e f g h i (ix3 s t k)
      = norm (fun k => k0_pay12 (F := Ideal) a b e f g h i (ix3 s t k)) (fun k => c (ix3 0 t k)) (fun k => d (ix3 0 t k)) k := by
  pointwise [k0_pay13]
  rfl
theorem pay14_at (a b c d e f g h i) (s : Fin 100) (t : Fin 128) :
    k0_pay14 (F := Ideal) a b c d e f g h i (ix2 s t) = scale (fun k => k0_pay13 (F := Ideal) a b c d e f g h i (ix3 s t k)) := by
  unfold k0_pay14
  exact scale_select _ _ _ (amax_at3 (k0_pay13 (F := Ideal) a b c d e f g h i) reduces_S100x128x1280_S100x128 (.inl rfl) rfl s t)
theorem pay15_at (a b c d e f g h i) (s : Fin 100) (t : Fin 128) (k : Fin 1280) :
    k0_pay15 (F := Ideal) a b c d e f g h i (ix3 s t k) = k0_pay14 (F := Ideal) a b c d e f g h i (ix2 s t) := by
  pointwise [k0_pay15]
theorem pay16_at (a c) (s : Fin 100) (t : Fin 128) (k : Fin 1280) :
    k0_pay16 (F := Ideal) a c (ix3 s t k) = min (Ideal.ofBits FTy.f32 0x43E00000#32) (max (Ideal.ofBits FTy.f32 0xC3E00000#32) (Ideal.div (a (ix3 s t k)) (c (ix3 s t k)))) := by
  pointwise [k0_pay16]
theorem pay17_at (a b c d e f) (s : Fin 100) (t : Fin 128) (k : Fin 5120) :
    k0_pay17 (F := Ideal) a b c d e f (ix3 s t k)
      = gelu ((∑ x : Fin 1280, k0_pay16 (F := Ideal) a c (ix3 s t x) * d (ix2 x k)) * b (ix2 s t) * e (ix3 0 0 k) + f (ix3 0 0 k)) := by
  pointwise [k0_pay17]
  rfl
theorem pay22_at (a b c d e f) (s : Fin 100) (t : Fin 128) :
    k0_pay22 (F := Ideal) (k0_pay19 a b c d e f) (k0_pay20 a b c d e f) k0_pay21 (ix2 s t) = scale (fun k => k0_pay17 (F := Ideal) a b c d e f (ix3 s t k)) := by
  unfold k0_pay22 k0_pay19 k0_pay20 k0_pay21 k0_pay18
  exact scale_select _ _ _ (amax_at3 (k0_pay17 (F := Ideal) a b c d e f) reduces_S100x128x5120_S100x128 (.inl rfl) rfl s t)
theorem pay23_at (c d e f) (s : Fin 100) (t : Fin 128) (k : Fin 5120) :
    k0_pay23 (F := Ideal) c d e f (ix3 s t k)
      = min (Ideal.ofBits FTy.f32 0x43E00000#32) (max (Ideal.ofBits FTy.f32 0xC3E00000#32) (Ideal.div (c (ix3 s t k)) (k0_pay22 (F := Ideal) d e f (ix2 s t)))) := by
  pointwise [k0_pay23]
theorem pay24_at (a b c d e f g h i) (s : Fin 100) (t : Fin 128) (k : Fin 1280) :
    k0_pay24 (F := Ideal) a b c d e f g h i (ix3 s t k)
      = b (ix3 s t k) + a (ix3 0 t k) * ((∑ x : Fin 5120, k0_pay23 (F := Ideal) c d e f (ix3 s t x) * g (ix2 x k)) * k0_pay22 (F := Ideal) d e f (ix2 s t) * h (ix3 0 0 k) + i (ix3 0 0 k)) := by
  pointwise [k0_pay24]

end Cert.MlpReferenceIdeal.Val

end
-- ==== Proof.RefBlock.lean ====
/- What the reference stores, token by token, from the arrays it reads. -/
module

public import proofs.«01_k».proof.Proof.Gen.MlpReferenceIdeal.Frame
public import proofs.«01_k».proof.Proof.RefPay
public import Idealize.ShloMosaic.Lib.Pipeline.ValueKit

@[expose] public section

set_option maxRecDepth 16384

noncomputable section

namespace Cert.MlpReferenceIdeal.Val

open Cert.MlpReferenceIdeal Cert.MlpReferenceIdeal.Gen Cert.Spec
open Idealize.ShloMosaic Idealize.ShloMosaic.TcCoe Idealize.ShloMosaic.Tactic
open Idealize.SL.Sem
open Idealize.ShloMosaic.Pipeline (Dat)

/-- Token `(s, b)` of the arrays that the reference reads. -/
def tokR (x0 : Vec Ideal S100x128x1280 .f32) (x1 : Vec Ideal S100x128x1280 .bf16) (x2 : Vec Ideal S6x128x1280 .f32) (x3 : Vec Ideal S1280x1280 .fp8e4m3) (x4 x5 : Vec Ideal S1x1x1280 .f32) (x6 : Vec Ideal S1280x5120 .fp8e4m3) (x7 x8 : Vec Ideal S1x1x5120 .f32) (x9 : Vec Ideal S5120x1280 .fp8e4m3) (x10 x11 : Vec Ideal S1x1x1280 .f32) (s : Fin 100) (b : Fin 128) : Tok where
  o k := x0 (ix3 s b k)
  x k := x1 (ix3 s b k)
  g1 k := x2 (ix3 0 b k)
  g2 k := x2 (ix3 1 b k)
  sc k := x2 (ix3 3 b k)
  sh k := x2 (ix3 5 b k)
  wp j k := x3 (ix2 j k)
  wps k := x4 (ix3 0 0 k)
  bp k := x5 (ix3 0 0 k)
  w1 j k := x6 (ix2 j k)
  w1s k := x7 (ix3 0 0 k)
  b1 k := x8 (ix3 0 0 k)
  w2 j k := x9 (ix2 j k)
  w2s k := x10 (ix3 0 0 k)
  b2 k := x11 (ix3 0 0 k)

theorem ld2 {n0 n1 : ℕ} {e : EltTy} (x : (⟨2, ![n0, n1]⟩ : Shape).Idx → Elt Ideal e) (inb) :
    View.ld x (Rect.unit (s := ⟨2, ![n0, n1]⟩) ![0, 0] (⟨2, ![n0, n1]⟩ : Shape).size inb) = x :=
  View.ld_unit_zero (by funext a; fin_cases a <;> rfl) inb x
theorem ld3 {n0 n1 n2 : ℕ} {e : EltTy} (x : (⟨3, ![n0, n1, n2]⟩ : Shape).Idx → Elt Ideal e) (inb) :
    View.ld x (Rect.unit (s := ⟨3, ![n0, n1, n2]⟩) ![0, 0, 0] (⟨3, ![n0, n1, n2]⟩ : Shape).size inb) = x :=
  View.ld_unit_zero (by funext a; fin_cases a <;> rfl) inb x
theorem canon2 {n0 n1 : ℕ} {e : EltTy} (x : (⟨2, ![n0, n1]⟩ : Shape).Idx → Elt Ideal e) (inb) :
    View.canon (Val := Elt Ideal) [⟨Rect.unit (s := ⟨2, ![n0, n1]⟩) ![0, 0] (⟨2, ![n0, n1]⟩ : Shape).size inb, x⟩] = x :=
  View.canon_unit_zero (by funext a; fin_cases a <;> rfl) inb x
theorem canon3 {n0 n1 n2 : ℕ} {e : EltTy} (x : (⟨3, ![n0, n1, n2]⟩ : Shape).Idx → Elt Ideal e) (inb) :
    View.canon (Val := Elt Ideal) [⟨Rect.unit (s := ⟨3, ![n0, n1, n2]⟩) ![0, 0, 0] (⟨3, ![n0, n1, n2]⟩ : Shape).size inb, x⟩] = x :=
  View.canon_unit_zero (by funext a; fin_cases a <;> rfl) inb x

variable (x0 : Vec Ideal S100x128x1280 .f32) (x1 : Vec Ideal S100x128x1280 .bf16) (x2 : Vec Ideal S6x128x1280 .f32) (x3 : Vec Ideal S1280x1280 .fp8e4m3) (x4 x5 : Vec Ideal S1x1x1280 .f32) (x6 : Vec Ideal S1280x5120 .fp8e4m3) (x7 x8 : Vec Ideal S1x1x5120 .f32) (x9 : Vec Ideal S5120x1280 .fp8e4m3) (x10 x11 : Vec Ideal S1x1x1280 .f32)

theorem v25 : k0_pay25 (F := Ideal) x0 x1 x2 x3 x4 x5 x6 x7 x8 x9 x10 x11 = x1 := by
  unfold k0_pay25
  rw [ld3, pay1_eq]
theorem v31 : k0_pay31 (F := Ideal) x0 x1 x2 x3 x4 x5 x6 x7 x8 x9 x10 x11 = x3 := by
  unfold k0_pay31
  rw [ld2, pay10_eq]
theorem v32 : k0_pay32 (F := Ideal) x0 x1 x2 x3 x4 x5 x6 x7 x8 x9 x10 x11 = x4 := by
  unfold k0_pay32
  rw [ld3, pay11_eq]
theorem v26 (q : Fin 1) (b : Fin 128) (k : Fin 1280) : k0_pay26 (F := Ideal) x0 x1 x2 x3 x4 x5 x6 x7 x8 x9 x10 x11 (ix3 q b k) = x2 (ix3 0 b k) := by
  unfold k0_pay26
  rw [ld3, pay3_at]
theorem v27 (q : Fin 1) (b : Fin 128) (k : Fin 1280) : k0_pay27 (F := Ideal) x0 x1 x2 x3 x4 x5 x6 x7 x8 x9 x10 x11 (ix3 q b k) = x2 (ix3 3 b k) := by
  unfold k0_pay27
  rw [ld3, pay5_at]
theorem v28 (q : Fin 1) (b : Fin 128) (k : Fin 1280) : k0_pay28 (F := Ideal) x0 x1 x2 x3 x4 x5 x6 x7 x8 x9 x10 x11 (ix3 q b k) = x2 (ix3 5 b k) := by
  unfold k0_pay28
  rw [ld3, pay6_at]
theorem v29 (s : Fin 100) (b : Fin 128) : k0_pay29 (F := Ideal) x0 x1 x2 x3 x4 x5 x6 x7 x8 x9 x10 x11 (ix2 s b) = scale (tokR x0 x1 x2 x3 x4 x5 x6 x7 x8 x9 x10 x11 s b).o := by
  unfold k0_pay29
  rw [ld3, pay8_at]
  rfl
theorem v30 (s : Fin 100) (b : Fin 128) (k : Fin 1280) : k0_pay30 (F := Ideal) x0 x1 x2 x3 x4 x5 x6 x7 x8 x9 x10 x11 (ix3 s b k) = code (tokR x0 x1 x2 x3 x4 x5 x6 x7 x8 x9 x10 x11 s b).o k := by
  unfold k0_pay30
  rw [ld3, pay9_at]
  rfl
theorem mid_at (s : Fin 100) (b : Fin 128) (k : Fin 1280) : k0_pay12 (F := Ideal) (k0_pay25 (F := Ideal) x0 x1 x2 x3 x4 x5 x6 x7 x8 x9 x10 x11) (k0_pay26 (F := Ideal) x0 x1 x2 x3 x4 x5 x6 x7 x8 x9 x10 x11) (k0_pay29 (F := Ideal) x0 x1 x2 x3 x4 x5 x6 x7 x8 x9 x10 x11) (k0_pay30 (F := Ideal) x0 x1 x2 x3 x4 x5 x6 x7 x8 x9 x10 x11) (k0_pay31 (F := Ideal) x0 x1 x2 x3 x4 x5 x6 x7 x8 x9 x10 x11) (k0_pay32 (F := Ideal) x0 x1 x2 x3 x4 x5 x6 x7 x8 x9 x10 x11) (View.ld x5 r0_3) (ix3 s b k) = (tokR x0 x1 x2 x3 x4 x5 x6 x7 x8 x9 x10 x11 s b).mid k := by
  rw [pay12_at, v25, v26, v29, v31, v32, ld3]
  simp only [v30]
  rfl
theorem v33 (s : Fin 100) (b : Fin 128) (k : Fin 1280) : k0_pay33 (F := Ideal) x0 x1 x2 x3 x4 x5 x6 x7 x8 x9 x10 x11 (ix3 s b k) = (tokR x0 x1 x2 x3 x4 x5 x6 x7 x8 x9 x10 x11 s b).h2 k := by
  unfold k0_pay33
  rw [pay13_at]
  simp only [mid_at, v27, v28]
  rfl
theorem v34 (s : Fin 100) (b : Fin 128) : k0_pay34 (F := Ideal) x0 x1 x2 x3 x4 x5 x6 x7 x8 x9 x10 x11 (ix2 s b) = scale (tokR x0 x1 x2 x3 x4 x5 x6 x7 x8 x9 x10 x11 s b).h2 := by
  unfold k0_pay34
  rw [pay14_at]
  exact congrArg scale (funext fun k => v33 x0 x1 x2 x3 x4 x5 x6 x7 x8 x9 x10 x11 s b k)
theorem v35 (s : Fin 100) (b : Fin 128) (k : Fin 1280) : k0_pay35 (F := Ideal) x0 x1 x2 x3 x4 x5 x6 x7 x8 x9 x10 x11 (ix3 s b k) = scale (tokR x0 x1 x2 x3 x4 x5 x6 x7 x8 x9 x10 x11 s b).h2 := by
  unfold k0_pay35
  rw [pay15_at]
  exact v34 x0 x1 x2 x3 x4 x5 x6 x7 x8 x9 x10 x11 s b
theorem c2_at (s : Fin 100) (b : Fin 128) (k : Fin 1280) : k0_pay16 (F := Ideal) (k0_pay33 (F := Ideal) x0 x1 x2 x3 x4 x5 x6 x7 x8 x9 x10 x11) (k0_pay35 (F := Ideal) x0 x1 x2 x3 x4 x5 x6 x7 x8 x9 x10 x11) (ix3 s b k) = code (tokR x0 x1 x2 x3 x4 x5 x6 x7 x8 x9 x10 x11 s b).h2 k := by
  rw [pay16_at, v33, v35]
  rfl
theorem v36 (s : Fin 100) (b : Fin 128) (k : Fin 5120) : k0_pay36 (F := Ideal) x0 x1 x2 x3 x4 x5 x6 x7 x8 x9 x10 x11 (ix3 s b k) = (tokR x0 x1 x2 x3 x4 x5 x6 x7 x8 x9 x10 x11 s b).hid k := by
  unfold k0_pay36
  rw [pay17_at, ld2, ld3, ld3, v34]
  simp only [c2_at]
  rfl
theorem sh_at (s : Fin 100) (b : Fin 128) : k0_pay22 (F := Ideal) (k0_pay37 (F := Ideal) x0 x1 x2 x3 x4 x5 x6 x7 x8 x9 x10 x11) (k0_pay38 (F := Ideal) x0 x1 x2 x3 x4 x5 x6 x7 x8 x9 x10 x11) (k0_pay39 (F := Ideal) x0 x1 x2 x3 x4 x5 x6 x7 x8 x9 x10 x11) (ix2 s b) = scale (tokR x0 x1 x2 x3 x4 x5 x6 x7 x8 x9 x10 x11 s b).hid := by
  unfold k0_pay37 k0_pay38 k0_pay39
  rw [pay22_at]
  exact congrArg scale (funext fun k => v36 x0 x1 x2 x3 x4 x5 x6 x7 x8 x9 x10 x11 s b k)
theorem ch_at (s : Fin 100) (b : Fin 128) (k : Fin 5120) : k0_pay23 (F := Ideal) (k0_pay36 (F := Ideal) x0 x1 x2 x3 x4 x5 x6 x7 x8 x9 x10 x11) (k0_pay37 (F := Ideal) x0 x1 x2 x3 x4 x5 x6 x7 x8 x9 x10 x11) (k0_pay38 (F := Ideal) x0 x1 x2 x3 x4 x5 x6 x7 x8 x9 x10 x11) (k0_pay39 (F := Ideal) x0 x1 x2 x3 x4 x5 x6 x7 x8 x9 x10 x11) (ix3 s b k) = code (tokR x0 x1 x2 x3 x4 x5 x6 x7 x8 x9 x10 x11 s b).hid k := by
  rw [pay23_at, v36, sh_at]
  rfl
theorem out13_at (s : Fin 100) (b : Fin 128) (k : Fin 1280) : out0_13 (F := Ideal) x0 x1 x2 x3 x4 x5 x6 x7 x8 x9 x10 x11 (ix3 s b k) = code (tokR x0 x1 x2 x3 x4 x5 x6 x7 x8 x9 x10 x11 s b).o k := by
  unfold out0_13
  rw [canon3, v30]
theorem out14_at (s : Fin 100) (b : Fin 128) : out0_14 (F := Ideal) x0 x1 x2 x3 x4 x5 x6 x7 x8 x9 x10 x11 (ix2 s b) = scale (tokR x0 x1 x2 x3 x4 x5 x6 x7 x8 x9 x10 x11 s b).o := by
  unfold out0_14
  rw [canon2, v29]
theorem out15_at (s : Fin 100) (b : Fin 128) (k : Fin 1280) : out0_15 (F := Ideal) x0 x1 x2 x3 x4 x5 x6 x7 x8 x9 x10 x11 (ix3 s b k) = code (tokR x0 x1 x2 x3 x4 x5 x6 x7 x8 x9 x10 x11 s b).h2 k := by
  unfold out0_15
  rw [canon3, c2_at]
theorem out16_at (s : Fin 100) (b : Fin 128) : out0_16 (F := Ideal) x0 x1 x2 x3 x4 x5 x6 x7 x8 x9 x10 x11 (ix2 s b) = scale (tokR x0 x1 x2 x3 x4 x5 x6 x7 x8 x9 x10 x11 s b).h2 := by
  unfold out0_16
  rw [canon2, v34]
theorem out17_at (s : Fin 100) (b : Fin 128) (k : Fin 5120) : out0_17 (F := Ideal) x0 x1 x2 x3 x4 x5 x6 x7 x8 x9 x10 x11 (ix3 s b k) = code (tokR x0 x1 x2 x3 x4 x5 x6 x7 x8 x9 x10 x11 s b).hid k := by
  unfold out0_17
  rw [canon3, ch_at]
theorem out18_at (s : Fin 100) (b : Fin 128) : out0_18 (F := Ideal) x0 x1 x2 x3 x4 x5 x6 x7 x8 x9 x10 x11 (ix2 s b) = scale (tokR x0 x1 x2 x3 x4 x5 x6 x7 x8 x9 x10 x11 s b).hid := by
  unfold out0_18
  rw [canon2, sh_at]
theorem out12_at (s : Fin 100) (b : Fin 128) (k : Fin 1280) : out0_12 (F := Ideal) x0 x1 x2 x3 x4 x5 x6 x7 x8 x9 x10 x11 (ix3 s b k) = (tokR x0 x1 x2 x3 x4 x5 x6 x7 x8 x9 x10 x11 s b).y k := by
  unfold out0_12
  rw [canon3, pay24_at, mid_at, ld3 x2, pay4_at, sh_at, ld2, ld3, ld3]
  simp only [ch_at]
  rfl

end Cert.MlpReferenceIdeal.Val

end
-- ==== Proof.RefArray.lean ====
/- What the reference leaves in its seven result arrays, index by index, from the argument arrays. -/
module

public import proofs.«01_k».proof.Proof.RefBlock
public import proofs.«01_k».proof.Proof.MlpTok
public import Idealize.ShloMosaic.Lib.Pipeline.ValueKit

@[expose] public section

set_option maxRecDepth 16384

noncomputable section

namespace Cert.MlpReferenceIdeal.Val

open Cert.MlpReferenceIdeal Cert.MlpReferenceIdeal.Gen Cert.Spec
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- Token `(s, b)` of the argument arrays. -/
def tok (c : Dev nD) (s : Fin 100) (b : Fin 128) : Tok :=
  argTok (fun b s k => m ((c : Thread nD τ).loc main_arg0) (ix3 b s k)) (fun b s k => m ((c : Thread nD τ).loc main_arg1) (ix3 b s k))
    (fun b s k => m ((c : Thread nD τ).loc main_arg2) (ix3 b s k)) (fun b s k => m ((c : Thread nD τ).loc main_arg3) (ix3 b s k))
    (fun k => m ((c : Thread nD τ).loc main_arg4) (ix1 k)) (fun k => m ((c : Thread nD τ).loc main_arg5) (ix1 k))
    (fun j k => m ((c : Thread nD τ).loc main_arg6) (ix2 j k)) (fun k => m ((c : Thread nD τ).loc main_arg7) (ix1 k)) (fun k => m ((c : Thread nD τ).loc main_arg8) (ix1 k))
    (fun j k => m ((c : Thread nD τ).loc main_arg9) (ix2 j k)) (fun k => m ((c : Thread nD τ).loc main_arg10) (ix1 k)) (fun k => m ((c : Thread nD τ).loc main_arg11) (ix1 k)) s b

/-- Every window is one whole array. -/
theorem idx : ∀ t : Fin cfg0.N, win0_0.index t = ![0, 0, 0] ∧ win0_1.index t = ![0, 0, 0] ∧ win0_2.index t = ![0, 0, 0] ∧ win0_3.index t = ![0, 0] ∧ win0_4.index t = ![0, 0, 0] ∧ win0_5.index t = ![0, 0, 0] ∧ win0_6.index t = ![0, 0] ∧ win0_7.index t = ![0, 0, 0] ∧ win0_8.index t = ![0, 0, 0] ∧ win0_9.index t = ![0, 0] ∧ win0_10.index t = ![0, 0, 0] ∧ win0_11.index t = ![0, 0, 0] ∧ win0_12.index t = ![0, 0, 0] ∧ win0_13.index t = ![0, 0, 0] ∧ win0_14.index t = ![0, 0] ∧ win0_15.index t = ![0, 0, 0] ∧ win0_16.index t = ![0, 0] ∧ win0_17.index t = ![0, 0, 0] ∧ win0_18.index t = ![0, 0] :=
  (by decide +kernel : ∀ t : Fin grid0.N, _)

theorem read_0 (c : Dev nD) (t : Fin cfg0.N) (s : Fin 100) (b : Fin 128) (k : Fin 1280) : iblk m c 0 t (ix3 s b k) = m ((c : Thread nD τ).loc main_arg2) (ix3 b s k) := by
  have h := idx t
  blk_ext! [iblk, V, h]
theorem read_1 (c : Dev nD) (t : Fin cfg0.N) (s : Fin 100) (b : Fin 128) (k : Fin 1280) : iblk m c 1 t (ix3 s b k) = m ((c : Thread nD τ).loc main_arg0) (ix3 b s k) := by
  have h := idx t
  blk_ext! [iblk, V, h]
theorem read_2 (c : Dev nD) (t : Fin cfg0.N) (r : Fin 6) (b : Fin 128) (k : Fin 1280) : iblk m c 2 t (ix3 r b k) = m ((c : Thread nD τ).loc main_arg1) (ix3 b r k) := by
  have h := idx t
  blk_ext! [iblk, V, h]
theorem read_3 (c : Dev nD) (t : Fin cfg0.N) (j k : Fin 1280) : iblk m c 3 t (ix2 j k) = m ((c : Thread nD τ).loc main_arg3) (ix3 ⟨j.val / 64, by omega⟩ ⟨j.val % 64, by omega⟩ k) := by
  have h := idx t
  blk_ext! [iblk, V, h]
theorem read_4 (c : Dev nD) (t : Fin cfg0.N) (k : Fin 1280) : iblk m c 4 t (ix3 0 0 k) = m ((c : Thread nD τ).loc main_arg4) (ix1 k) := by
  have h := idx t
  blk_ext! [iblk, V, h]
theorem read_5 (c : Dev nD) (t : Fin cfg0.N) (k : Fin 1280) : iblk m c 5 t (ix3 0 0 k) = m ((c : Thread nD τ).loc main_arg5) (ix1 k) := by
  have h := idx t
  blk_ext! [iblk, V, h]
theorem read_6 (c : Dev nD) (t : Fin cfg0.N) (j : Fin 1280) (k : Fin 5120) : iblk m c 6 t (ix2 j k) = m ((c : Thread nD τ).loc main_arg6) (ix2 j k) := by
  have h := idx t
  blk_ext! [iblk, V, h]
theorem read_7 (c : Dev nD) (t : Fin cfg0.N) (k : Fin 5120) : iblk m c 7 t (ix3 0 0 k) = m ((c : Thread nD τ).loc main_arg7) (ix1 k) := by
  have h := idx t
  blk_ext! [iblk, V, h]
theorem read_8 (c : Dev nD) (t : Fin cfg0.N) (k : Fin 5120) : iblk m c 8 t (ix3 0 0 k) = m ((c : Thread nD τ).loc main_arg8) (ix1 k) := by
  have h := idx t
  blk_ext! [iblk, V, h]
theorem read_9 (c : Dev nD) (t : Fin cfg0.N) (j : Fin 5120) (k : Fin 1280) : iblk m c 9 t (ix2 j k) = m ((c : Thread nD τ).loc main_arg9) (ix2 j k) := by
  have h := idx t
  blk_ext! [iblk, V, h]
theorem read_10 (c : Dev nD) (t : Fin cfg0.N) (k : Fin 1280) : iblk m c 10 t (ix3 0 0 k) = m ((c : Thread nD τ).loc main_arg10) (ix1 k) := by
  have h := idx t
  blk_ext! [iblk, V, h]
theorem read_11 (c : Dev nD) (t : Fin cfg0.N) (k : Fin 1280) : iblk m c 11 t (ix3 0 0 k) = m ((c : Thread nD τ).loc main_arg11) (ix1 k) := by
  have h := idx t
  blk_ext! [iblk, V, h]

theorem tokR_eq (c : Dev nD) (t : Fin cfg0.N) (s : Fin 100) (b : Fin 128) : tokR (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s b = tok m c s b := by
  unfold tokR tok argTok
  simp only [read_0, read_1, read_2, read_3, read_4, read_5, read_6, read_7, read_8, read_9, read_10, read_11]

/-- The first result, as an array. -/
def yArr (c : Dev nD) : Vec Ideal S100x128x1280 .bf16 := fun i => (tok m c (i 0) (i 1)).y (i 2)
theorem y_out (c : Dev nD) (t : Fin cfg0.N) (s : Fin 100) (b : Fin 128) (k : Fin 1280) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 s b k) = (tok m c s b).y k := by
  rw [out12_at, tokR_eq]
theorem y_emb (c : Dev nD) (t : Fin cfg0.N) (y j : S100x128x1280.Idx) (h0 : (j 0).val = (y 0).val) (h1 : (j 1).val = (y 1).val) (h2 : (j 2).val = (y 2).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = yArr m c j := by
  have e0 : (j 0 : Fin 100) = y 0 := Fin.ext h0
  have e1 : (j 1 : Fin 128) = y 1 := Fin.ext h1
  have e2 : (j 2 : Fin 1280) = y 2 := Fin.ext h2
  refine (congrArg _ (eq_ix3 y)).trans ((y_out m c t _ _ _).trans ?_)
  unfold yArr
  rw [e0, e1, e2]
/-- The whole array after the run. -/
theorem y_array (c : Dev nD) : (dats m 0 c).arrAt 12 cfg0.N = yArr m c := by
  refine Dat.arrAt_eq_of_covers _ 12 _ (by decide +kernel) fun t hf y => ?_
  have hi := idx t
  blk_simp
  rw [after0_12]
  refine y_emb m c t y _ ?_ ?_ ?_ <;> (blk_simp [hi]; try omega)
/-- The codes of the attention output, as an array. -/
def coArr (c : Dev nD) : Vec Ideal S100x128x1280 .fp8e4m3 := fun i => code (tok m c (i 0) (i 1)).o (i 2)
theorem co_out (c : Dev nD) (t : Fin cfg0.N) (s : Fin 100) (b : Fin 128) (k : Fin 1280) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 s b k) = code (tok m c s b).o k := by
  rw [out13_at, tokR_eq]
theorem co_emb (c : Dev nD) (t : Fin cfg0.N) (y j : S100x128x1280.Idx) (h0 : (j 0).val = (y 0).val) (h1 : (j 1).val = (y 1).val) (h2 : (j 2).val = (y 2).val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = coArr m c j := by
  have e0 : (j 0 : Fin 100) = y 0 := Fin.ext h0
  have e1 : (j 1 : Fin 128) = y 1 := Fin.ext h1
  have e2 : (j 2 : Fin 1280) = y 2 := Fin.ext h2
  refine (congrArg _ (eq_ix3 y)).trans ((co_out m c t _ _ _).trans ?_)
  unfold coArr
  rw [e0, e1, e2]
/-- The whole array after the run. -/
theorem co_array (c : Dev nD) : (dats m 0 c).arrAt 13 cfg0.N = coArr m c := by
  refine Dat.arrAt_eq_of_covers _ 13 _ (by decide +kernel) fun t hf y => ?_
  have hi := idx t
  blk_simp
  rw [after0_13]
  refine co_emb m c t y _ ?_ ?_ ?_ <;> (blk_simp [hi]; try omega)
/-- The scales of the attention output, as an array. -/
def soArr (c : Dev nD) : Vec Ideal S100x128 .f32 := fun i => scale (tok m c (i 0) (i 1)).o
theorem so_out (c : Dev nD) (t : Fin cfg0.N) (s : Fin 100) (b : Fin 128) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 s b) = scale (tok m c s b).o := by
  rw [out14_at, tokR_eq]
theorem so_emb (c : Dev nD) (t : Fin cfg0.N) (y j : S100x128.Idx) (h0 : (j 0).val = (y 0).val) (h1 : (j 1).val = (y 1).val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = soArr m c j := by
  have e0 : (j 0 : Fin 100) = y 0 := Fin.ext h0
  have e1 : (j 1 : Fin 128) = y 1 := Fin.ext h1
  refine (congrArg _ (eq_ix2 y)).trans ((so_out m c t _ _).trans ?_)
  unfold soArr
  rw [e0, e1]
/-- The whole array after the run. -/
theorem so_array (c : Dev nD) : (dats m 0 c).arrAt 14 cfg0.N = soArr m c := by
  refine Dat.arrAt_eq_of_covers _ 14 _ (by decide +kernel) fun t hf y => ?_
  have hi := idx t
  blk_simp
  rw [after0_14]
  refine so_emb m c t y _ ?_ ?_ <;> (blk_simp [hi]; try omega)
/-- The codes of the second layer norm, as an array. -/
def c2Arr (c : Dev nD) : Vec Ideal S100x128x1280 .fp8e4m3 := fun i => code (tok m c (i 0) (i 1)).h2 (i 2)
theorem c2_out (c : Dev nD) (t : Fin cfg0.N) (s : Fin 100) (b : Fin 128) (k : Fin 1280) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 s b k) = code (tok m c s b).h2 k := by
  rw [out15_at, tokR_eq]
theorem c2_emb (c : Dev nD) (t : Fin cfg0.N) (y j : S100x128x1280.Idx) (h0 : (j 0).val = (y 0).val) (h1 : (j 1).val = (y 1).val) (h2 : (j 2).val = (y 2).val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = c2Arr m c j := by
  have e0 : (j 0 : Fin 100) = y 0 := Fin.ext h0
  have e1 : (j 1 : Fin 128) = y 1 := Fin.ext h1
  have e2 : (j 2 : Fin 1280) = y 2 := Fin.ext h2
  refine (congrArg _ (eq_ix3 y)).trans ((c2_out m c t _ _ _).trans ?_)
  unfold c2Arr
  rw [e0, e1, e2]
/-- The whole array after the run. -/
theorem c2_array (c : Dev nD) : (dats m 0 c).arrAt 15 cfg0.N = c2Arr m c := by
  refine Dat.arrAt_eq_of_covers _ 15 _ (by decide +kernel) fun t hf y => ?_
  have hi := idx t
  blk_simp
  rw [after0_15]
  refine c2_emb m c t y _ ?_ ?_ ?_ <;> (blk_simp [hi]; try omega)
/-- The scales of the second layer norm, as an array. -/
def s2Arr (c : Dev nD) : Vec Ideal S100x128 .f32 := fun i => scale (tok m c (i 0) (i 1)).h2
theorem s2_out (c : Dev nD) (t : Fin cfg0.N) (s : Fin 100) (b : Fin 128) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 s b) = scale (tok m c s b).h2 := by
  rw [out16_at, tokR_eq]
theorem s2_emb (c : Dev nD) (t : Fin cfg0.N) (y j : S100x128.Idx) (h0 : (j 0).val = (y 0).val) (h1 : (j 1).val = (y 1).val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = s2Arr m c j := by
  have e0 : (j 0 : Fin 100) = y 0 := Fin.ext h0
  have e1 : (j 1 : Fin 128) = y 1 := Fin.ext h1
  refine (congrArg _ (eq_ix2 y)).trans ((s2_out m c t _ _).trans ?_)
  unfold s2Arr
  rw [e0, e1]
/-- The whole array after the run. -/
theorem s2_array (c : Dev nD) : (dats m 0 c).arrAt 16 cfg0.N = s2Arr m c := by
  refine Dat.arrAt_eq_of_covers _ 16 _ (by decide +kernel) fun t hf y => ?_
  have hi := idx t
  blk_simp
  rw [after0_16]
  refine s2_emb m c t y _ ?_ ?_ <;> (blk_simp [hi]; try omega)
/-- The codes of the gelu, as an array. -/
def chArr (c : Dev nD) : Vec Ideal S100x128x5120 .fp8e4m3 := fun i => code (tok m c (i 0) (i 1)).hid (i 2)
theorem ch_out (c : Dev nD) (t : Fin cfg0.N) (s : Fin 100) (b : Fin 128) (k : Fin 5120) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 s b k) = code (tok m c s b).hid k := by
  rw [out17_at, tokR_eq]
theorem ch_emb (c : Dev nD) (t : Fin cfg0.N) (y j : S100x128x5120.Idx) (h0 : (j 0).val = (y 0).val) (h1 : (j 1).val = (y 1).val) (h2 : (j 2).val = (y 2).val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = chArr m c j := by
  have e0 : (j 0 : Fin 100) = y 0 := Fin.ext h0
  have e1 : (j 1 : Fin 128) = y 1 := Fin.ext h1
  have e2 : (j 2 : Fin 5120) = y 2 := Fin.ext h2
  refine (congrArg _ (eq_ix3 y)).trans ((ch_out m c t _ _ _).trans ?_)
  unfold chArr
  rw [e0, e1, e2]
/-- The whole array after the run. -/
theorem ch_array (c : Dev nD) : (dats m 0 c).arrAt 17 cfg0.N = chArr m c := by
  refine Dat.arrAt_eq_of_covers _ 17 _ (by decide +kernel) fun t hf y => ?_
  have hi := idx t
  blk_simp
  rw [after0_17]
  refine ch_emb m c t y _ ?_ ?_ ?_ <;> (blk_simp [hi]; try omega)
/-- The scales of the gelu, as an array. -/
def shArr (c : Dev nD) : Vec Ideal S100x128 .f32 := fun i => scale (tok m c (i 0) (i 1)).hid
theorem sh_out (c : Dev nD) (t : Fin cfg0.N) (s : Fin 100) (b : Fin 128) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 s b) = scale (tok m c s b).hid := by
  rw [out18_at, tokR_eq]
theorem sh_emb (c : Dev nD) (t : Fin cfg0.N) (y j : S100x128.Idx) (h0 : (j 0).val = (y 0).val) (h1 : (j 1).val = (y 1).val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = shArr m c j := by
  have e0 : (j 0 : Fin 100) = y 0 := Fin.ext h0
  have e1 : (j 1 : Fin 128) = y 1 := Fin.ext h1
  refine (congrArg _ (eq_ix2 y)).trans ((sh_out m c t _ _).trans ?_)
  unfold shArr
  rw [e0, e1]
/-- The whole array after the run. -/
theorem sh_array (c : Dev nD) : (dats m 0 c).arrAt 18 cfg0.N = shArr m c := by
  refine Dat.arrAt_eq_of_covers _ 18 _ (by decide +kernel) fun t hf y => ?_
  have hi := idx t
  blk_simp
  rw [after0_18]
  refine sh_emb m c t y _ ?_ ?_ <;> (blk_simp [hi]; try omega)

end Cert.MlpReferenceIdeal.Val

end
-- ==== Proof.Equation.lean ====
/- The equation: from equal arguments the kernel and the reference leave equal result arrays. -/
module

public import proofs.«01_k».proof.Defs
public import proofs.«01_k».proof.Proof.MlpArray
public import proofs.«01_k».proof.Proof.RefArray
public import proofs.«01_k».proof.Proof.Gen.Mlp
public import proofs.«01_k».proof.Proof.Gen.MlpIdeal
public import proofs.«01_k».proof.Proof.Gen.MlpReferenceIdeal

@[expose] public section

set_option maxRecDepth 16384

noncomputable section

namespace Cert.Proof

open Idealize.ShloMosaic Idealize.ShloMosaic.TcCoe Idealize.SL.Sem Cert.Spec

/-- The token of equal argument arrays is the same token. -/
theorem argTok_congr {x x' : Fin 128 → Fin 100 → Fin 1280 → EReal} {ada ada' : Fin 128 → Fin 6 → Fin 1280 → EReal} {o o' : Fin 128 → Fin 100 → Fin 1280 → EReal} {wp wp' : Fin 20 → Fin 64 → Fin 1280 → EReal} {wps wps' : Fin 1280 → EReal} {bp bp' : Fin 1280 → EReal} {w1 w1' : Fin 1280 → Fin 5120 → EReal} {w1s w1s' : Fin 5120 → EReal} {b1 b1' : Fin 5120 → EReal} {w2 w2' : Fin 5120 → Fin 1280 → EReal} {w2s w2s' : Fin 1280 → EReal} {b2 b2' : Fin 1280 → EReal}
    (h0 : ∀ b s k, x b s k = x' b s k) (h1 : ∀ b s k, ada b s k = ada' b s k) (h2 : ∀ b s k, o b s k = o' b s k) (h3 : ∀ b s k, wp b s k = wp' b s k) (h4 : ∀ k, wps k = wps' k) (h5 : ∀ k, bp k = bp' k) (h6 : ∀ j k, w1 j k = w1' j k) (h7 : ∀ k, w1s k = w1s' k) (h8 : ∀ k, b1 k = b1' k) (h9 : ∀ j k, w2 j k = w2' j k) (h10 : ∀ k, w2s k = w2s' k) (h11 : ∀ k, b2 k = b2' k)
    (s : Fin 100) (b : Fin 128) :
    argTok x ada o wp wps bp w1 w1s b1 w2 w2s b2 s b = argTok x' ada' o' wp' wps' bp' w1' w1s' b1' w2' w2s' b2' s b := by
  obtain rfl : x = x' := funext fun b => funext fun s => funext fun k => h0 b s k
  obtain rfl : ada = ada' := funext fun b => funext fun s => funext fun k => h1 b s k
  obtain rfl : o = o' := funext fun b => funext fun s => funext fun k => h2 b s k
  obtain rfl : wp = wp' := funext fun b => funext fun s => funext fun k => h3 b s k
  obtain rfl : wps = wps' := funext fun k => h4 k
  obtain rfl : bp = bp' := funext fun k => h5 k
  obtain rfl : w1 = w1' := funext fun j => funext fun k => h6 j k
  obtain rfl : w1s = w1s' := funext fun k => h7 k
  obtain rfl : b1 = b1' := funext fun k => h8 k
  obtain rfl : w2 = w2' := funext fun j => funext fun k => h9 j k
  obtain rfl : w2s = w2s' := funext fun k => h10 k
  obtain rfl : b2 = b2' := funext fun k => h11 k
  rfl

end Cert.Proof

namespace Cert.MlpIdeal.Run

open Cert.MlpIdeal Cert.MlpIdeal.Gen
open Idealize.ShloMosaic Idealize.ShloMosaic.TcCoe Idealize.SL.Sem

variable (m : (ℓ : Loc nD τ sig) → Buf (Elt Ideal) ℓ) (ρ : Dev nD → PrngReg)

/-- The kernel ends with its seven arrays of results and with its arguments unchanged. -/
theorem value : θ_run defs (onTc (τ := τ) (main (F := Ideal))) ⟨m, fun _ => 0, ρ⟩ (fun r => ∀ c : Dev nD,
    r.2.mem ((c.tc : Thread nD τ).loc main_v10_0) = yArr m c
    ∧ r.2.mem ((c.tc : Thread nD τ).loc main_v10_1) = coArr m c
    ∧ r.2.mem ((c.tc : Thread nD τ).loc main_v10_2) = soArr m c
    ∧ r.2.mem ((c.tc : Thread nD τ).loc main_v10_3) = c2Arr m c
    ∧ r.2.mem ((c.tc : Thread nD τ).loc main_v10_4) = s2Arr m c
    ∧ r.2.mem ((c.tc : Thread nD τ).loc main_v10_5) = chArr m c
    ∧ r.2.mem ((c.tc : Thread nD τ).loc main_v10_6) = shArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run defs _ _).mono (fun r h c => ⟨y_array m r h.2.1 c, co_array m r h.2.1 c, so_array m r h.2.1 c, c2_array m r h.2.1 c, s2_array m r h.2.1 c, ch_array m r h.2.1 c, sh_array m r h.2.1 c, h.1 c⟩)
    (θ_run_and (unchanged m ρ) (run_main_quiescent m ρ))

end Cert.MlpIdeal.Run

namespace Cert.MlpReferenceIdeal.Val

open Cert.MlpReferenceIdeal Cert.MlpReferenceIdeal.Gen
open Idealize.ShloMosaic Idealize.ShloMosaic.TcCoe Idealize.SL.Sem

variable (m : (ℓ : Loc nD τ sig) → Buf (Elt Ideal) ℓ) (ρ : Dev nD → PrngReg)

/-- The reference ends with its seven arrays of results and with its arguments unchanged. -/
theorem value : θ_run defs (onTc (τ := τ) (main (F := Ideal))) ⟨m, fun _ => 0, ρ⟩ (fun r => ∀ c : Dev nD,
    r.2.mem ((c.tc : Thread nD τ).loc main_v10_0) = yArr m c
    ∧ r.2.mem ((c.tc : Thread nD τ).loc main_v10_1) = coArr m c
    ∧ r.2.mem ((c.tc : Thread nD τ).loc main_v10_2) = soArr m c
    ∧ r.2.mem ((c.tc : Thread nD τ).loc main_v10_3) = c2Arr m c
    ∧ r.2.mem ((c.tc : Thread nD τ).loc main_v10_4) = s2Arr m c
    ∧ r.2.mem ((c.tc : Thread nD τ).loc main_v10_5) = chArr m c
    ∧ r.2.mem ((c.tc : Thread nD τ).loc main_v10_6) = shArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run defs _ _).mono (fun r h c => ⟨((h.2 c).1 12).trans (y_array m c), ((h.2 c).1 13).trans (co_array m c), ((h.2 c).1 14).trans (so_array m c), ((h.2 c).1 15).trans (c2_array m c), ((h.2 c).1 16).trans (s2_array m c), ((h.2 c).1 17).trans (ch_array m c), ((h.2 c).1 18).trans (sh_array m c), h.1 c⟩)
    (θ_run_and (unchanged m ρ) (run_main m ρ))

end Cert.MlpReferenceIdeal.Val

namespace Cert.Proof

open Idealize.ShloMosaic Idealize.ShloMosaic.TcCoe Idealize.SL.Sem Cert.Spec

variable (m : (ℓ : Loc Cert.MlpIdeal.nD Cert.MlpIdeal.τ Cert.MlpIdeal.sig) → Buf (Elt Ideal) ℓ)
  (m' : (ℓ : Loc Cert.MlpReferenceIdeal.nD Cert.MlpReferenceIdeal.τ Cert.MlpReferenceIdeal.sig) → Buf (Elt Ideal) ℓ)

/-- The two programs are given the same argument arrays on core `c`. -/
def Agree (c : Dev Cert.MlpIdeal.nD) : Prop :=
  m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
  ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
  ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
  ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
  ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
  ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
  ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
  ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
  ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
  ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)
  ∧ m' ((c.tc : Thread Cert.MlpReferenceIdeal.nD Cert.MlpReferenceIdeal.τ).loc Cert.MlpReferenceIdeal.main_arg10) = m ((c.tc : Thread Cert.MlpIdeal.nD Cert.MlpIdeal.τ).loc Cert.MlpIdeal.main_arg10)
  ∧ m' ((c.tc : Thread Cert.MlpReferenceIdeal.nD Cert.MlpReferenceIdeal.τ).loc Cert.MlpReferenceIdeal.main_arg11) = m ((c.tc : Thread Cert.MlpIdeal.nD Cert.MlpIdeal.τ).loc Cert.MlpIdeal.main_arg11)

/-- From equal arguments, token `(s, b)` of the reference is token `(s, b)` of the kernel. -/
theorem tok_eq (c : Dev Cert.MlpIdeal.nD) (h : Agree m m' c) (s : Fin 100) (b : Fin 128) :
    Cert.MlpReferenceIdeal.Val.tok m' c s b = Cert.MlpIdeal.Run.tok m c s b := by
  obtain ⟨h0, h1, h2, h3, h4, h5, h6, h7, h8, h9, h10, h11⟩ := h
  unfold Cert.MlpReferenceIdeal.Val.tok Cert.MlpIdeal.Run.tok
  exact argTok_congr (fun b s k => congrFun h0 (ix3 b s k)) (fun b s k => congrFun h1 (ix3 b s k)) (fun b s k => congrFun h2 (ix3 b s k)) (fun b s k => congrFun h3 (ix3 b s k)) (fun k => congrFun h4 (ix1 k)) (fun k => congrFun h5 (ix1 k)) (fun j k => congrFun h6 (ix2 j k)) (fun k => congrFun h7 (ix1 k)) (fun k => congrFun h8 (ix1 k)) (fun j k => congrFun h9 (ix2 j k)) (fun k => congrFun h10 (ix1 k)) (fun k => congrFun h11 (ix1 k)) s b

theorem y_eq (c : Dev Cert.MlpIdeal.nD) (h : Agree m m' c) : Cert.MlpReferenceIdeal.Val.yArr m' c = Cert.MlpIdeal.Run.yArr m c := by
  funext i
  unfold Cert.MlpReferenceIdeal.Val.yArr Cert.MlpIdeal.Run.yArr
  exact congrArg (fun T : Tok => T.y (i 2)) (tok_eq m m' c h (i 0) (i 1))
theorem co_eq (c : Dev Cert.MlpIdeal.nD) (h : Agree m m' c) : Cert.MlpReferenceIdeal.Val.coArr m' c = Cert.MlpIdeal.Run.coArr m c := by
  funext i
  unfold Cert.MlpReferenceIdeal.Val.coArr Cert.MlpIdeal.Run.coArr
  exact congrArg (fun T : Tok => code T.o (i 2)) (tok_eq m m' c h (i 0) (i 1))
theorem so_eq (c : Dev Cert.MlpIdeal.nD) (h : Agree m m' c) : Cert.MlpReferenceIdeal.Val.soArr m' c = Cert.MlpIdeal.Run.soArr m c := by
  funext i
  unfold Cert.MlpReferenceIdeal.Val.soArr Cert.MlpIdeal.Run.soArr
  exact congrArg (fun T : Tok => scale T.o) (tok_eq m m' c h (i 0) (i 1))
theorem c2_eq (c : Dev Cert.MlpIdeal.nD) (h : Agree m m' c) : Cert.MlpReferenceIdeal.Val.c2Arr m' c = Cert.MlpIdeal.Run.c2Arr m c := by
  funext i
  unfold Cert.MlpReferenceIdeal.Val.c2Arr Cert.MlpIdeal.Run.c2Arr
  exact congrArg (fun T : Tok => code T.h2 (i 2)) (tok_eq m m' c h (i 0) (i 1))
theorem s2_eq (c : Dev Cert.MlpIdeal.nD) (h : Agree m m' c) : Cert.MlpReferenceIdeal.Val.s2Arr m' c = Cert.MlpIdeal.Run.s2Arr m c := by
  funext i
  unfold Cert.MlpReferenceIdeal.Val.s2Arr Cert.MlpIdeal.Run.s2Arr
  exact congrArg (fun T : Tok => scale T.h2) (tok_eq m m' c h (i 0) (i 1))
theorem ch_eq (c : Dev Cert.MlpIdeal.nD) (h : Agree m m' c) : Cert.MlpReferenceIdeal.Val.chArr m' c = Cert.MlpIdeal.Run.chArr m c := by
  funext i
  unfold Cert.MlpReferenceIdeal.Val.chArr Cert.MlpIdeal.Run.chArr
  exact congrArg (fun T : Tok => code T.hid (i 2)) (tok_eq m m' c h (i 0) (i 1))
theorem sh_eq (c : Dev Cert.MlpIdeal.nD) (h : Agree m m' c) : Cert.MlpReferenceIdeal.Val.shArr m' c = Cert.MlpIdeal.Run.shArr m c := by
  funext i
  unfold Cert.MlpReferenceIdeal.Val.shArr Cert.MlpIdeal.Run.shArr
  exact congrArg (fun T : Tok => scale T.hid) (tok_eq m m' c h (i 0) (i 1))

/-- The kernel and the reference compute the same seven arrays over the extended reals. -/
theorem algebraic : letI := Cert.MlpIdeal.Gen.facts; letI := Cert.MlpReferenceIdeal.Gen.facts; Cert.algebraic_MlpIdeal_MlpReferenceIdeal := by
  intro m g m' g' _ hag
  refine ⟨Cert.MlpIdeal.Run.yArr m, Cert.MlpIdeal.Run.coArr m, Cert.MlpIdeal.Run.soArr m, Cert.MlpIdeal.Run.c2Arr m, Cert.MlpIdeal.Run.s2Arr m, Cert.MlpIdeal.Run.chArr m, Cert.MlpIdeal.Run.shArr m, Cert.MlpIdeal.Run.value m g, ?_⟩
  refine (θ_run _ _ _).mono (fun r h c => ?_) (Cert.MlpReferenceIdeal.Val.value m' g')
  obtain ⟨e0, e1, e2, e3, e4, e5, e6, hk⟩ := h c
  exact ⟨e0.trans (y_eq m m' c (hag c)), e1.trans (co_eq m m' c (hag c)), e2.trans (so_eq m m' c (hag c)), e3.trans (c2_eq m m' c (hag c)), e4.trans (s2_eq m m' c (hag c)), e5.trans (ch_eq m m' c (hag c)), e6.trans (sh_eq m m' c (hag c)), hk⟩

end Cert.Proof

end
-- ==== Proof.QkvBitsHeads.lean ====
module

public import proofs.«01_k».proof.Proof.Gen.Qkv.Frame
public import proofs.«01_k».proof.Proof.Gen.Qkv.Skeleton
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.VecWindow
public import Idealize.ShloMosaic.Lib.WritesUnit

@[expose] public section

set_option maxRecDepth 16384

noncomputable section

namespace Cert.Qkv.Run

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first head's queries are computed by the same function as the other heads' of the row of scales. -/
theorem q_head0 (v35 : IVec S128x1 1) (v37 : FVec F S128x1 .f32) (A W B : Vec F S64x128 .f32) (mu : Elt F .f32) :
    k0_pay11 (k0_pay10 v35 v37 A W) B mu = k0_pay19 (k0_pay8 v35 v37) A W B mu := rfl

/-- Every head's queries are computed by the same function of the row of scales, the head's lines of the product, of the weight's scales and of the bias. -/
theorem q_heads (R : FVec F S1x128 .f32) (A W B : Vec F S64x128 .f32) (mu : Elt F .f32) :
    k0_pay31 (k0_pay29 R A W B) (k0_pay30 R A W B) mu = k0_pay19 R A W B mu
    ∧ k0_pay38 (k0_pay37 R A) W B mu = k0_pay19 R A W B mu
    ∧ k0_pay47 R A W B mu = k0_pay19 R A W B mu
    ∧ k0_pay57 (k0_pay54 R A W B) (k0_pay55 R A W B) (k0_pay56 R A W B) mu = k0_pay19 R A W B mu
    ∧ k0_pay64 R A W B mu = k0_pay19 R A W B mu
    ∧ k0_pay75 (k0_pay74 R A W B mu) = k0_pay19 R A W B mu
    ∧ k0_pay84 (k0_pay82 R A W B) (k0_pay83 R A W B) mu = k0_pay19 R A W B mu
    ∧ k0_pay91 R A W B mu = k0_pay19 R A W B mu
    ∧ k0_pay100 (k0_pay99 R A W B) mu = k0_pay19 R A W B mu
    ∧ k0_pay108 (k0_pay107 R A W) B mu = k0_pay19 R A W B mu
    ∧ k0_pay117 R A W B mu = k0_pay19 R A W B mu
    ∧ k0_pay128 (k0_pay126 R A W B) (k0_pay127 R A W B) (Scalar.ofBits .f32 0x3F800000#32) mu = k0_pay19 R A W B mu
    ∧ k0_pay135 (k0_pay134 R A) W B mu = k0_pay19 R A W B mu
    ∧ k0_pay144 R A W B mu = k0_pay19 R A W B mu
    ∧ k0_pay153 (k0_pay151 R A W B) (k0_pay152 R A W B) (Scalar.ofBits .f32 0x00000000#32) mu = k0_pay19 R A W B mu
    ∧ k0_pay160 R A W B mu = k0_pay19 R A W B mu
    ∧ k0_pay170 (k0_pay169 R A W B mu) = k0_pay19 R A W B mu
    ∧ k0_pay178 (k0_pay177 R A W B) mu = k0_pay19 R A W B mu := by
  refine ⟨?_, ?_, ?_, ?_, ?_, ?_, ?_, ?_, ?_, ?_, ?_, ?_, ?_, ?_, ?_, ?_, ?_, ?_⟩ <;> rfl

/-- Every head's key codes are computed by the same function of the row of scales, the head's lines of the product, of the weight's scales. -/
theorem k_heads (R : FVec F S1x128 .f32) (A W : Vec F S64x128 .f32) :
    k0_pay13 (k0_pay12 R A W) = k0_pay32 R A W
    ∧ k0_pay21 (k0_pay20 R A) W = k0_pay32 R A W
    ∧ k0_pay41 (k0_pay39 R A W) (k0_pay40 R A W) = k0_pay32 R A W
    ∧ k0_pay48 R A W = k0_pay32 R A W
    ∧ k0_pay59 (k0_pay58 R A W) = k0_pay32 R A W
    ∧ k0_pay68 (k0_pay65 R A W) (k0_pay66 R A W) (k0_pay67 R A W) = k0_pay32 R A W
    ∧ k0_pay76 R A W = k0_pay32 R A W
    ∧ k0_pay86 (Scalar.ofBits .f32 0x42FE0000#32) (k0_pay85 R A W) = k0_pay32 R A W
    ∧ k0_pay94 (k0_pay92 R A W) (k0_pay93 R A W) = k0_pay32 R A W
    ∧ k0_pay101 R A W = k0_pay32 R A W
    ∧ k0_pay111 (k0_pay109 R A W) (k0_pay110 (F := F)) = k0_pay32 R A W
    ∧ k0_pay119 (k0_pay118 R A) W = k0_pay32 R A W
    ∧ k0_pay129 R A W = k0_pay32 R A W
    ∧ k0_pay138 (k0_pay136 R A W) (k0_pay137 R A W) (Scalar.ofBits .f32 0x3F800000#32) = k0_pay32 R A W
    ∧ k0_pay145 R A W = k0_pay32 R A W
    ∧ k0_pay155 (k0_pay154 R A W) = k0_pay32 R A W
    ∧ k0_pay163 (k0_pay161 R A W) (k0_pay162 R A W) (Scalar.ofBits .f32 0x00000000#32) = k0_pay32 R A W
    ∧ k0_pay171 R A W = k0_pay32 R A W
    ∧ k0_pay180 (k0_pay179 R A W) (Scalar.ofBits .f32 0xC2FE0000#32) (Scalar.ofBits .f32 0x42FE0000#32) = k0_pay32 R A W := by
  refine ⟨?_, ?_, ?_, ?_, ?_, ?_, ?_, ?_, ?_, ?_, ?_, ?_, ?_, ?_, ?_, ?_, ?_, ?_, ?_⟩ <;> rfl

/-- Every head's value codes are computed by the same function of the row of scales, the head's lines of the product, of the weight's scales and of the bias. -/
theorem v_heads (R : FVec F S1x128 .f32) (A W B : Vec F S64x128 .f32) :
    k0_pay17 (k0_pay16 R A W B) = k0_pay35 R A W B
    ∧ k0_pay27 (k0_pay22 R A W B) (k0_pay23 R A W B) (k0_pay24 R A W B) (k0_pay25 (F := F)) = k0_pay35 R A W B
    ∧ k0_pay45 (k0_pay44 R A W B) = k0_pay35 R A W B
    ∧ k0_pay52 (k0_pay49 R A W B) (k0_pay50 R A W B) = k0_pay35 R A W B
    ∧ k0_pay62 R A W B = k0_pay35 R A W B
    ∧ k0_pay72 (k0_pay71 R A W B) = k0_pay35 R A W B
    ∧ k0_pay80 (k0_pay77 R A W) B = k0_pay35 R A W B
    ∧ k0_pay89 R A W B = k0_pay35 R A W B
    ∧ k0_pay97 (k0_pay95 R A W B) (k0_pay96 R A W B) = k0_pay35 R A W B
    ∧ k0_pay105 (k0_pay102 R A) W B = k0_pay35 R A W B
    ∧ k0_pay115 (k0_pay114 R A W B) = k0_pay35 R A W B
    ∧ k0_pay124 (k0_pay120 R A W B) (k0_pay121 R A W B) (k0_pay122 R A W B) = k0_pay35 R A W B
    ∧ k0_pay132 R A W B = k0_pay35 R A W B
    ∧ k0_pay142 (Scalar.ofBits .f32 0x42FE0000#32) (k0_pay141 R A W B) = k0_pay35 R A W B
    ∧ k0_pay149 (k0_pay146 R A W B) (k0_pay147 R A W B) = k0_pay35 R A W B
    ∧ k0_pay158 R A W B = k0_pay35 R A W B
    ∧ k0_pay167 (k0_pay164 R A W B) (k0_pay166 R A W B) = k0_pay35 R A W B
    ∧ k0_pay175 (k0_pay172 R A W) B = k0_pay35 R A W B
    ∧ k0_pay183 R A W B = k0_pay35 R A W B := by
  refine ⟨?_, ?_, ?_, ?_, ?_, ?_, ?_, ?_, ?_, ?_, ?_, ?_, ?_, ?_, ?_, ?_, ?_, ?_, ?_⟩ <;> rfl

/-- Every head's value scales are computed by the same function of the row of scales, the head's lines of the product, of the weight's scales and of the bias. -/
theorem vs_heads (R : FVec F S1x128 .f32) (A W B : Vec F S64x128 .f32) :
    k0_pay18 (k0_pay15 R A W B) = k0_pay36 R A W B
    ∧ k0_pay28 (k0_pay23 R A W B) (k0_pay24 R A W B) (k0_pay25 (F := F)) = k0_pay36 R A W B
    ∧ k0_pay46 (k0_pay43 R A W B) = k0_pay36 R A W B
    ∧ k0_pay53 (k0_pay50 R A W B) = k0_pay36 R A W B
    ∧ k0_pay63 R A W B = k0_pay36 R A W B
    ∧ k0_pay73 (k0_pay70 R A W B) = k0_pay36 R A W B
    ∧ k0_pay81 (k0_pay77 R A W) B = k0_pay36 R A W B
    ∧ k0_pay90 (k0_pay88 R A W B) = k0_pay36 R A W B
    ∧ k0_pay98 (k0_pay96 R A W B) = k0_pay36 R A W B
    ∧ k0_pay106 (k0_pay102 R A) W B = k0_pay36 R A W B
    ∧ k0_pay116 (k0_pay113 R A W B) = k0_pay36 R A W B
    ∧ k0_pay125 (k0_pay121 R A W B) (k0_pay122 R A W B) = k0_pay36 R A W B
    ∧ k0_pay133 R A W B = k0_pay36 R A W B
    ∧ k0_pay143 (k0_pay140 R A W B) = k0_pay36 R A W B
    ∧ k0_pay150 (k0_pay147 R A W B) = k0_pay36 R A W B
    ∧ k0_pay159 R A W B = k0_pay36 R A W B
    ∧ k0_pay168 (k0_pay165 R A W B) = k0_pay36 R A W B
    ∧ k0_pay176 (k0_pay172 R A W) B = k0_pay36 R A W B
    ∧ k0_pay1 (k0_pay182 R A W B) = k0_pay36 R A W B := by
  refine ⟨?_, ?_, ?_, ?_, ?_, ?_, ?_, ?_, ?_, ?_, ?_, ?_, ?_, ?_, ?_, ?_, ?_, ?_, ?_⟩ <;> rfl

end Cert.Qkv.Run

end
-- ==== Proof.QkvBitsRun.lean ====
module

public import proofs.«01_k».proof.Proof.QkvBitsHeads
public import proofs.«01_k».proof.Proof.Gen.Qkv.Frame
public import proofs.«01_k».proof.Proof.Gen.Qkv.Skeleton
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.VecWindow
public import Idealize.ShloMosaic.Lib.WritesUnit

@[expose] public section

set_option maxRecDepth 16384

noncomputable section

namespace Cert.Qkv.Run

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes of the first layer norm of one block of tokens. -/
def c1Block (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) : Vec F S1x128x1280 .fp8e4m3 :=
  k0_pay7 (k0_pay2 x0 x1 x2) (k0_pay4 x0 x1 x2) (k0_pay5 x0 x1 x2)
/-- The scales of the first layer norm of this block, one for each row. -/
def s1Row (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) : Vec F S1x128 .f32 := k0_pay8 (k0_pay4 x0 x1 x2) (k0_pay5 x0 x1 x2)
/-- The integer product of the weight with the codes of this block. -/
def accV (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) : Vec F S3840x128 .f32 := k0_pay9 x3 (c1Block x0 x1 x2 x3 x4 x5 x6 x7)

/-- The 64 lines from line `o` of an array of 3840 lines. -/
def lines3 (X : Vec F S3840x128 .f32) (o : ℕ) (ho : o + 64 ≤ 3840) : Vec F S64x128 .f32 :=
  View.ld X (Rect.unit (s := S3840x128) ![o, 0] S64x128.size fun a => by
    fin_cases a
    · exact ho
    · exact Nat.le_refl 128)
/-- The 64 lines from line `o` of an array of 1280 lines. -/
def lines1 (X : Vec F S1280x128 .f32) (o : ℕ) (ho : o + 64 ≤ 1280) : Vec F S64x128 .f32 :=
  View.ld X (Rect.unit (s := S1280x128) ![o, 0] S64x128.size fun a => by
    fin_cases a
    · exact ho
    · exact Nat.le_refl 128)

/-- One head of the normalised queries of this block. -/
def qHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x64x128 .bf16 :=
  k0_pay19 (s1Row x0 x1 x2 x3 x4 x5 x6 x7) (lines3 (accV x0 x1 x2 x3 x4 x5 x6 x7) (64 * h.val) (by omega)) (lines3 x4 (64 * h.val) (by omega)) (lines1 x5 (64 * h.val) (by omega)) (View.ld x7 (Rect.unit (s := S20) ![h.val] S1.size fun a => by
    fin_cases a
    exact h.isLt) (Shape.Idx.first (numel1_S1.symm ▸ Nat.one_pos)))
/-- One head of the codes of the keys of this block. -/
def kHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x64x128 .i8 :=
  k0_pay32 (s1Row x0 x1 x2 x3 x4 x5 x6 x7) (lines3 (accV x0 x1 x2 x3 x4 x5 x6 x7) (1280 + 64 * h.val) (by omega)) (lines3 x4 (1280 + 64 * h.val) (by omega))
/-- One head of the codes of the values of this block. -/
def vHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x64x128 .i8 :=
  k0_pay35 (s1Row x0 x1 x2 x3 x4 x5 x6 x7) (lines3 (accV x0 x1 x2 x3 x4 x5 x6 x7) (2560 + 64 * h.val) (by omega)) (lines3 x4 (2560 + 64 * h.val) (by omega)) (lines1 x6 (64 * h.val) (by omega))
/-- One head of the scales of the values of this block. -/
def vsHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x1x128 .f32 :=
  k0_pay36 (s1Row x0 x1 x2 x3 x4 x5 x6 x7) (lines3 (accV x0 x1 x2 x3 x4 x5 x6 x7) (2560 + 64 * h.val) (by omega)) (lines3 x4 (2560 + 64 * h.val) (by omega)) (lines1 x6 (64 * h.val) (by omega))

/-- The block whose head `h` is `P h`. -/
def tile {e : EltTy} (P : Fin 20 → S1x64x128.Idx → Elt F e) : S1x1280x128.Idx → Elt F e :=
  fun j => P ⟨(j 1).val / 64, by have := (j 1).isLt; change (j 1).val < 1280 at this; omega⟩
    (ix3 0 ⟨(j 1).val % 64, Nat.mod_lt _ (by norm_num)⟩ (j 2))

/-- The first `n` heads of a block are those of the tiled block. -/
def TileUpto {e : EltTy} (P : Fin 20 → S1x64x128.Idx → Elt F e) (n : ℕ) (g : S1x1280x128.Idx → Elt F e) : Prop :=
  ∀ y : S1x1280x128.Idx, (y 1).val < 64 * n → g y = tile P y
theorem TileUpto.zero {e : EltTy} (P : Fin 20 → S1x64x128.Idx → Elt F e) (g : S1x1280x128.Idx → Elt F e) : TileUpto P 0 g :=
  fun _ hy => absurd hy (Nat.not_lt_zero _)
theorem TileUpto.all {e : EltTy} {P : Fin 20 → S1x64x128.Idx → Elt F e} {g : S1x1280x128.Idx → Elt F e} (h : TileUpto P 20 g) : g = tile P :=
  funext fun y => h y (y 1).isLt

/-- Storing head `n` after heads `0` to `n - 1` leaves the first `n + 1` heads of the tiled block. -/
theorem tile_step {sp : Space} {e : EltTy} (v : View sig .tc sp S1x1280x128 e) (f : v.ty.Contents (Elt F)) (L : List (View.Piece (Elt F) S1x1280x128 e))
    (P : Fin 20 → S1x64x128.Idx → Elt F e) {n : ℕ} (hn : n < 20) {off : Fin 3 → ℕ} {inb : ∀ a, off a + S1x64x128.size a ≤ S1x1280x128.size a}
    {w : S1x64x128.Idx → Elt F e} (hoff : off = ![0, 64 * n, 0]) (hw : w = P ⟨n, hn⟩)
    (h : TileUpto P n (v.read (Elt F) (v.writes (Elt F) f L))) :
    TileUpto P (n + 1) (v.read (Elt F) (v.writes (Elt F) f (⟨Rect.unit (s := S1x1280x128) off S1x64x128.size inb, w⟩ :: L))) := by
  intro y hy
  by_cases h1 : (y 1).val < 64 * n
  · refine (View.read_writes_cons_unit_of_not_mem v f inb w L y hoff 1 (Or.inl ?_)).trans (h y h1)
    exact h1
  · refine (View.read_writes_cons_unit_of_mem v f inb w L y (ix3 0 ⟨(y 1).val % 64, Nat.mod_lt _ (by norm_num)⟩ (y 2)) hoff ?_).trans ?_
    · intro a
      fin_cases a
      · have := (y 0).isLt
        change (y 0).val < 1 at this
        show (y 0).val = 0 + 0
        omega
      · show (y 1).val = 64 * n + (y 1).val % 64
        omega
      · exact (Nat.zero_add _).symm
    · subst hw
      unfold tile
      congr 1
      exact Fin.ext (show n = (y 1).val / 64 by omega)

/-- A resident scale array with the row of grid point `i` overwritten. -/
def putRow (i : grid0.Coords) (y : Vec F S100x128 .f32) (p : Vec F S1x128 .f32) : Vec F S100x128 .f32 :=
  fun j => if (j 0).val = (i 0).val then p (ix2 0 (j 1)) else y j

/-- Storing a row at grid point `i` leaves `putRow`. -/
theorem read_writes_row {sp : Space} (v : View sig .tc sp S100x128 .f32) (f : v.ty.Contents (Elt F)) (i : grid0.Coords)
    (inb : ∀ a, k0_off1 i a + S1x128.size a ≤ S100x128.size a)
    (w : (Rect.unit (s := S100x128) (k0_off1 i) S1x128.size inb).shape.Idx → Elt F .f32) :
    v.read (Elt F) (v.writes (Elt F) f [⟨Rect.unit (s := S100x128) (k0_off1 i) S1x128.size inb, w⟩])
      = putRow i (v.read (Elt F) f) w := by
  funext j
  have h : k0_off1 i = ![(i 0).val, 0] := k0_off1_eq i
  unfold putRow
  split
  · rename_i hj
    exact View.read_writes_cons_rows_of_mem v f inb w [] j (ix2 0 (j 1)) h (by rw [hj]; rfl) rfl
  · rename_i hj
    exact View.read_writes_cons_rows_of_not_mem v f inb w [] j h (W := 1) rfl (by omega)

/-- A resident array of scales by head with the row of grid point `i` overwritten in every head. -/
def putRows (i : grid0.Coords) (y : Vec F S20x100x128 .f32) (p : Fin 20 → Vec F S1x1x128 .f32) : Vec F S20x100x128 .f32 :=
  fun j => if (j 1).val = (i 0).val then p (j 0) (ix3 0 0 (j 2)) else y j

/-- The row of grid point `i` is overwritten in the first `n` heads. -/
def RowsUpto (i : grid0.Coords) (y0 : Vec F S20x100x128 .f32) (P : Fin 20 → Vec F S1x1x128 .f32) (n : ℕ) (g : Vec F S20x100x128 .f32) : Prop :=
  ∀ y : S20x100x128.Idx, g y = if (y 0).val < n then putRows i y0 P y else y0 y
theorem RowsUpto.zero (i : grid0.Coords) (y0 : Vec F S20x100x128 .f32) (P : Fin 20 → Vec F S1x1x128 .f32) : RowsUpto i y0 P 0 y0 :=
  fun _ => (if_neg (Nat.not_lt_zero _)).symm
theorem RowsUpto.all {i : grid0.Coords} {y0 : Vec F S20x100x128 .f32} {P : Fin 20 → Vec F S1x1x128 .f32} {g : Vec F S20x100x128 .f32} (h : RowsUpto i y0 P 20 g) :
    g = putRows i y0 P :=
  funext fun y => (h y).trans (if_pos (y 0).isLt)

/-- Storing the row of head `n` after those of heads `0` to `n - 1`. -/
theorem rows_step {sp : Space} (v : View sig .tc sp S20x100x128 .f32) (f : v.ty.Contents (Elt F)) (i : grid0.Coords) (L : List (View.Piece (Elt F) S20x100x128 .f32))
    (P : Fin 20 → Vec F S1x1x128 .f32) {n : ℕ} (hn : n < 20) {off : Fin 3 → ℕ} [c : ClosedOff off] {inb : ∀ a, off a + S1x1x128.size a ≤ S20x100x128.size a}
    {w : Vec F S1x1x128 .f32} (hoff : c.form = ![n, (i 0).val, 0]) (hw : w = P ⟨n, hn⟩)
    (h : RowsUpto i (v.read (Elt F) f) P n (v.read (Elt F) (v.writes (Elt F) f L))) :
    RowsUpto i (v.read (Elt F) f) P (n + 1) (v.read (Elt F) (v.writes (Elt F) f (⟨Rect.unit (s := S20x100x128) off S1x1x128.size inb, w⟩ :: L))) := by
  intro y
  have ho : off = ![n, (i 0).val, 0] := c.eq.trans hoff
  by_cases h0 : (y 0).val = n
  · by_cases h1 : (y 1).val = (i 0).val
    · refine (View.read_writes_cons_unit_of_mem v f inb w L y (ix3 0 0 (y 2)) ho ?_).trans ?_
      · intro a
        fin_cases a
        · exact h0
        · exact h1
        · exact (Nat.zero_add _).symm
      · rw [if_pos (by omega)]
        unfold putRows
        rw [if_pos h1]
        subst hw
        exact congrFun (congrArg P (Fin.ext h0.symm)) _
    · refine (View.read_writes_cons_unit_of_not_mem v f inb w L y ho 1 ?_).trans ((h y).trans ?_)
      · show (y 1).val < (i 0).val ∨ (i 0).val + 1 ≤ (y 1).val
        omega
      · rw [if_neg (by omega), if_pos (by omega)]
        unfold putRows
        rw [if_neg h1]
  · refine (View.read_writes_cons_unit_of_not_mem v f inb w L y ho 0 ?_).trans ((h y).trans ?_)
    · show (y 0).val < n ∨ n + 1 ≤ (y 0).val
      omega
    · congr 1
      exact propext (by omega)

/-- Loading a part of what one store of the whole array left. -/
theorem readCov_part {sp : Space} (v : View sig .tc sp S3840x128 .f32) {off : Fin 2 → ℕ} (inb : ∀ a, off a + S3840x128.size a ≤ S3840x128.size a)
    (w : S3840x128.Idx → Elt F .f32) (r : Rect S3840x128) :
    v.readCov [⟨Rect.unit (s := S3840x128) off (no_index S3840x128.size) inb, w⟩] r.toLoadRect = View.ld w r := by
  show View.ld (v.read (Elt F) (v.writes (Elt F) v.junk _)) r = _
  rw [View.read_writes_full]

set_option maxHeartbeats 0 in
/-- What the body does at one grid point. -/
theorem body_run (c : Dev nD) (i : grid0.Coords) (arg1 : Memref sig .tc .vmem S1x128x1280 .bf16) (harg1 : arg1.IsWhole) (arg2 : Memref sig .tc .vmem S1x128x1280 .f32) (harg2 : arg2.IsWhole) (arg3 : Memref sig .tc .vmem S1x128x1280 .f32) (harg3 : arg3.IsWhole) (arg4 : Memref sig .tc .vmem S3840x1280 .fp8e4m3) (harg4 : arg4.IsWhole) (arg5 : Memref sig .tc .vmem S3840x128 .f32) (harg5 : arg5.IsWhole) (arg6 : Memref sig .tc .vmem S1280x128 .f32) (harg6 : arg6.IsWhole) (arg7 : Memref sig .tc .vmem S1280x128 .f32) (harg7 : arg7.IsWhole) (arg8 : Memref sig .tc .smem S20 .f32) (harg8 : arg8.IsWhole) (arg9 : Memref sig .tc .vmem S1x128x1280 .fp8e4m3) (harg9 : arg9.IsWhole) (arg10 : Memref sig .tc .vmem S100x128 .f32) (harg10 : arg10.IsWhole) (arg11 : Memref sig .tc .vmem S1x1280x128 .i8) (harg11 : arg11.IsWhole) (arg12 : Memref sig .tc .vmem S1x1280x128 .i8) (harg12 : arg12.IsWhole) (arg13 : Memref sig .tc .vmem S20x100x128 .f32) (harg13 : arg13.IsWhole) (arg14 : Memref sig .tc .vmem S1x1280x128 .bf16) (harg14 : arg14.IsWhole) (arg15 : Memref sig .tc .vmem S3840x128 .f32) (harg15 : arg15.IsWhole)
    (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (y9 : Vec F S100x128 .f32) (y12 : Vec F S20x100x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare y9 ∗ (∃ d, owns (c : Thread nD τ) arg11 fullShare d) ∗ (∃ d, owns (c : Thread nD τ) arg12 fullShare d) ∗ owns (c : Thread nD τ) arg13 fullShare y12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (c1Block x0 x1 x2 x3 x4 x5 x6 x7) ∗ owns (c : Thread nD τ) arg10 fullShare (putRow i y9 (s1Row x0 x1 x2 x3 x4 x5 x6 x7)) ∗ owns (c : Thread nD τ) arg11 fullShare (tile (kHead x0 x1 x2 x3 x4 x5 x6 x7)) ∗ owns (c : Thread nD τ) arg12 fullShare (tile (vHead x0 x1 x2 x3 x4 x5 x6 x7)) ∗ owns (c : Thread nD τ) arg13 fullShare (putRows i y12 (vsHead x0 x1 x2 x3 x4 x5 x6 x7)) ∗ owns (c : Thread nD τ) arg14 fullShare (tile (qHead x0 x1 x2 x3 x4 x5 x6 x7)) ∗ (∃ d, owns (c : Thread nD τ) arg15 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%f12, %hf12, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      frame_open
      rw [View.read_writes_full]
      simp (disch := decide) only [View.ld_unit_lit', View.readCov_unit_lit', View.readCov_cons_unit_lit', readCov_part, View.readAt_eq_ld, Memref.IsWhole.read_unread]
      simp only [c1Block]
      done
    isplitl [H9]
    · iexists _; isplitr; swap; · iexact H9
      ipureintro
      frame_open
      rw [read_writes_row]
      simp (disch := decide) only [View.ld_unit_lit', View.readCov_unit_lit', View.readCov_cons_unit_lit', readCov_part, View.readAt_eq_ld, Memref.IsWhole.read_unread]
      simp only [s1Row]
      done
    isplitl [H10]
    · iexists _; isplitr; swap; · iexact H10
      ipureintro
      frame_open
      simp (disch := decide) only [View.ld_unit_lit', View.readCov_unit_lit', View.readCov_cons_unit_lit', readCov_part, View.readAt_eq_ld, Memref.IsWhole.read_unread]
      simp only [k_heads]
      unfold kHead s1Row accV c1Block
      generalize k0_pay8 (F := F) _ _ = R
      generalize k0_pay9 (F := F) _ _ = A
      refine TileUpto.all ?_
      iterate 20 refine tile_step _ _ _ _ (by decide) (by rfl) (by rfl) ?_
      exact TileUpto.zero _ _
    isplitl [H11]
    · iexists _; isplitr; swap; · iexact H11
      ipureintro
      frame_open
      simp (disch := decide) only [View.ld_unit_lit', View.readCov_unit_lit', View.readCov_cons_unit_lit', readCov_part, View.readAt_eq_ld, Memref.IsWhole.read_unread]
      simp only [v_heads]
      unfold vHead s1Row accV c1Block
      generalize k0_pay8 (F := F) _ _ = R
      generalize k0_pay9 (F := F) _ _ = A
      refine TileUpto.all ?_
      iterate 20 refine tile_step _ _ _ _ (by decide) (by rfl) (by rfl) ?_
      exact TileUpto.zero _ _
    isplitl [H12]
    · iexists _; isplitr; swap; · iexact H12
      ipureintro
      frame_open
      simp (disch := decide) only [View.ld_unit_lit', View.readCov_unit_lit', View.readCov_cons_unit_lit', readCov_part, View.readAt_eq_ld, Memref.IsWhole.read_unread]
      simp only [vs_heads]
      unfold vsHead s1Row accV c1Block
      generalize k0_pay8 (F := F) _ _ = R
      generalize k0_pay9 (F := F) _ _ = A
      refine Eq.trans (RowsUpto.all ?_) (congrArg (fun z => putRows i z _) (harg13.read_unread y12))
      iterate 20 refine rows_step _ _ i _ _ (by decide) (by rfl) (by rfl) ?_
      exact RowsUpto.zero i _ _
    isplitl [H13]
    · iexists _; isplitr; swap; · iexact H13
      ipureintro
      frame_open
      simp (disch := decide) only [View.ld_unit_lit', View.readCov_unit_lit', View.readCov_cons_unit_lit', readCov_part, View.readAt_eq_ld, Memref.IsWhole.read_unread]
      simp only [q_head0, q_heads]
      unfold qHead s1Row accV c1Block
      generalize k0_pay8 (F := F) _ _ = R
      generalize k0_pay9 (F := F) _ _ = A
      refine TileUpto.all ?_
      iterate 20 refine tile_step _ _ _ _ (by decide) (by rfl) (by rfl) ?_
      exact TileUpto.zero _ _
    iexists _, _; isplitr; swap; · iexact HS0
    ipureintro; rfl

end Cert.Qkv.Run

end
-- ==== Proof.QkvBitsFrame.lean ====
module

public import proofs.«01_k».proof.Proof.QkvBitsRun
public import Idealize.ShloMosaic.Lib.Pipeline.ArrRel

@[expose] public section

set_option maxRecDepth 16384

noncomputable section

namespace Cert.Qkv.Run

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes of the first layer norm as grid point `t` computes them from the blocks it is handed. -/
def c1At (c : Dev nD) (t : Fin cfg0.N) : Vec F S1x128x1280 .fp8e4m3 := c1Block (iblk m c 0 t) (iblk m c 1 t) (iblk m c 2 t) (iblk m c 3 t) (iblk m c 4 t) (iblk m c 5 t) (iblk m c 6 t) (iblk m c 7 t)
/-- The scales of the first layer norm as grid point `t` computes them from the blocks it is handed. -/
def s1At (c : Dev nD) (t : Fin cfg0.N) : Vec F S1x128 .f32 := s1Row (iblk m c 0 t) (iblk m c 1 t) (iblk m c 2 t) (iblk m c 3 t) (iblk m c 4 t) (iblk m c 5 t) (iblk m c 6 t) (iblk m c 7 t)
/-- The codes of the keys as grid point `t` computes them from the blocks it is handed. -/
def kAt (c : Dev nD) (t : Fin cfg0.N) : Vec F S1x1280x128 .i8 := tile (kHead (iblk m c 0 t) (iblk m c 1 t) (iblk m c 2 t) (iblk m c 3 t) (iblk m c 4 t) (iblk m c 5 t) (iblk m c 6 t) (iblk m c 7 t))
/-- The codes of the values as grid point `t` computes them from the blocks it is handed. -/
def vAt (c : Dev nD) (t : Fin cfg0.N) : Vec F S1x1280x128 .i8 := tile (vHead (iblk m c 0 t) (iblk m c 1 t) (iblk m c 2 t) (iblk m c 3 t) (iblk m c 4 t) (iblk m c 5 t) (iblk m c 6 t) (iblk m c 7 t))
/-- The scales of the values as grid point `t` computes them from the blocks it is handed, head by head. -/
def vsAt (c : Dev nD) (t : Fin cfg0.N) : Fin 20 → Vec F S1x1x128 .f32 := vsHead (iblk m c 0 t) (iblk m c 1 t) (iblk m c 2 t) (iblk m c 3 t) (iblk m c 4 t) (iblk m c 5 t) (iblk m c 6 t) (iblk m c 7 t)
/-- The queries as grid point `t` computes them from the blocks it is handed. -/
def qAt (c : Dev nD) (t : Fin cfg0.N) : Vec F S1x1280x128 .bf16 := tile (qHead (iblk m c 0 t) (iblk m c 1 t) (iblk m c 2 t) (iblk m c 3 t) (iblk m c 4 t) (iblk m c 5 t) (iblk m c 6 t) (iblk m c 7 t))

/-- What the body leaves in an output's buffer at grid point `t`: the block of that point; in the two arrays of scales, which stay
    in place, the rows of all points so far. -/
def Rl (c : Dev nD) (w : Fin cfg0.W) (t : Fin cfg0.N) : ((cfg0.win w).block.Idx → Elt F (cfg0.win w).elt) → Prop :=
  match w with
  | ⟨8, _⟩ => fun X => X = c1At m c t
  | ⟨9, _⟩ => fun (X : Vec F S100x128 .f32) => ∀ (s : Fin cfg0.N), s.val ≤ t.val → ∀ j : S100x128.Idx, (j 0).val = s.val → X j = s1At m c s (ix2 0 (j 1))
  | ⟨10, _⟩ => fun X => X = kAt m c t
  | ⟨11, _⟩ => fun X => X = vAt m c t
  | ⟨12, _⟩ => fun (X : Vec F S20x100x128 .f32) => ∀ (s : Fin cfg0.N), s.val ≤ t.val → ∀ j : S20x100x128.Idx, (j 1).val = s.val → X j = vsAt m c s (j 0) (ix3 0 0 (j 2))
  | ⟨13, _⟩ => fun X => X = qAt m c t
  | _ => fun _ => True

/-- The argument arrays end unchanged. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev ms0_0 (t : Fin cfg0.N) : Memref sig .tc .vmem S1x128x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3840x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3840x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S20 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x1280 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S100x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280x128 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S20x100x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1280x128 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S3840x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output windows. -/
def forgets0 : Fin 14 → Bool := fun w => w.val == 8 || w.val == 9 || w.val == 10 || w.val == 11 || w.val == 12 || w.val == 13

/-- The proof data of the one pipeline on core `c`: each input's buffer holds its block; the outputs are held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨_ + 14, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The proof data with the outputs held to `Rl`. -/
abbrev rdat (c : Dev nD) : Pipeline.RDat τ (Elt F) Unit ℕ (UR sig nD τ) ℕ (cfgs 0) c := (dats m 0 c).toRRel forgets0 (Rl m c)

theorem coords_val : ∀ t : Fin grid0.N, (grid0.coords t 0).val = t.val := by decide +kernel

/-- Before point `t`, the rows of the earlier points stand. -/
theorem found_9 (c : Dev nD) (t : Fin cfg0.N) (Y : Vec F S100x128 .f32) (h : (rdat m c).Finds 9 t Y) :
    ∀ (s : Fin cfg0.N), s.val < t.val → ∀ j : S100x128.Idx, (j 0).val = s.val → Y j = s1At m c s (ix2 0 (j 1)) := by
  intro s hs j hj
  have ht : t.val ≠ 0 := by omega
  rcases ((rdat m c).finds_of_pos (w := 9) (t := t) rfl ht Y).mp h with hf | hl
  · have h1 := (flush0_9 _).mp hf
    have h2 : t.val < 100 := t.isLt
    simp only at h1
    omega
  · exact (Dat.toRRel_leaves (dats m 0 c) (fgt := forgets0) (Rl := Rl m c) (w := 9) rfl hl) s (by show s.val ≤ t.val - 1; omega) j hj

/-- After point `t`, its row stands too. -/
theorem left_9 (c : Dev nD) (t : Fin cfg0.N) (Y : Vec F S100x128 .f32) (h : (rdat m c).Finds 9 t Y) :
    Rl m c 9 t (putRow (grid0.coords t) Y (s1At m c t)) := by
  intro s hs j hj
  unfold putRow
  split
  · rename_i h'
    rw [coords_val] at h'
    have : s = t := Fin.ext (by omega)
    rw [this]
  · rename_i h'
    rw [coords_val] at h'
    exact found_9 m c t Y h s (by omega) j hj

/-- Before point `t`, the rows of the earlier points stand. -/
theorem found_12 (c : Dev nD) (t : Fin cfg0.N) (Y : Vec F S20x100x128 .f32) (h : (rdat m c).Finds 12 t Y) :
    ∀ (s : Fin cfg0.N), s.val < t.val → ∀ j : S20x100x128.Idx, (j 1).val = s.val → Y j = vsAt m c s (j 0) (ix3 0 0 (j 2)) := by
  intro s hs j hj
  have ht : t.val ≠ 0 := by omega
  rcases ((rdat m c).finds_of_pos (w := 12) (t := t) rfl ht Y).mp h with hf | hl
  · have h1 := (flush0_12 _).mp hf
    have h2 : t.val < 100 := t.isLt
    simp only at h1
    omega
  · exact (Dat.toRRel_leaves (dats m 0 c) (fgt := forgets0) (Rl := Rl m c) (w := 12) rfl hl) s (by show s.val ≤ t.val - 1; omega) j hj

/-- After point `t`, its row stands too. -/
theorem left_12 (c : Dev nD) (t : Fin cfg0.N) (Y : Vec F S20x100x128 .f32) (h : (rdat m c).Finds 12 t Y) :
    Rl m c 12 t (putRows (grid0.coords t) Y (vsAt m c t)) := by
  intro s hs j hj
  unfold putRows
  split
  · rename_i h'
    rw [coords_val] at h'
    have : s = t := Fin.ext (by omega)
    rw [this]
  · rename_i h'
    rw [coords_val] at h'
    exact found_12 m c t Y h s (by omega) j hj

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %h8, H8⟩, ⟨%Y9, %h9, H9⟩, ⟨%Y10, %h10, H10⟩, ⟨%Y11, %h11, H11⟩, ⟨%Y12, %h12, H12⟩, ⟨%Y13, %h13, H13⟩⟩
  iapply (body_run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Y9 Y12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexact H12
  isplitl [H13]; · iexists _; iexact H13
  isplitl [HS0]; · iexact HS0
  iintro ⟨H0, H1, H2, H3, H4, H5, H6, H7, H8, H9, H10, H11, H12, H13, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact rfl
  isplitl [H9]
  · iexists _; isplitr; swap; · iexact H9
    ipureintro; exact left_9 m c t Y9 h9
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact left_12 m c t Y12 h12
  iexists _; isplitr; swap; · iexact H13
  ipureintro; exact rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run and the frame -/

set_option backward.isDefEq.respectTransparency.types false in
/-- The run: every array ends at contents that `Rl` allows, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := fun _ => .rfl) (hout := fun _ => .rfl) (hQ' := fun _ h => h)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_ofR m ρ (rdat m) (A_eq m) ((θ_run defs _ _).mono (fun _ h => h.1) (run_main_quiescent m ρ))

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Qkv.Run

end
-- ==== Proof.QkvHeads.lean ====
module

public import proofs.«01_k».proof.Proof.Gen.QkvIdeal.Frame
public import proofs.«01_k».proof.Proof.Gen.QkvIdeal.Skeleton
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.VecWindow
public import Idealize.ShloMosaic.Lib.WritesUnit

@[expose] public section

set_option maxRecDepth 16384

noncomputable section

namespace Cert.QkvIdeal.Run

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first head's queries are computed by the same function as the other heads' of the row of scales. -/
theorem q_head0 (v35 : IVec S128x1 1) (v37 : FVec F S128x1 .f32) (A W B : Vec F S64x128 .f32) (mu : Elt F .f32) :
    k0_pay11 (k0_pay10 v35 v37 A W) B mu = k0_pay19 (k0_pay8 v35 v37) A W B mu := rfl

/-- Every head's queries are computed by the same function of the row of scales, the head's lines of the product, of the weight's scales and of the bias. -/
theorem q_heads (R : FVec F S1x128 .f32) (A W B : Vec F S64x128 .f32) (mu : Elt F .f32) :
    k0_pay31 (k0_pay29 R A W B) (k0_pay30 R A W B) mu = k0_pay19 R A W B mu
    ∧ k0_pay38 (k0_pay37 R A) W B mu = k0_pay19 R A W B mu
    ∧ k0_pay47 R A W B mu = k0_pay19 R A W B mu
    ∧ k0_pay57 (k0_pay54 R A W B) (k0_pay55 R A W B) (k0_pay56 R A W B) mu = k0_pay19 R A W B mu
    ∧ k0_pay64 R A W B mu = k0_pay19 R A W B mu
    ∧ k0_pay75 (k0_pay74 R A W B mu) = k0_pay19 R A W B mu
    ∧ k0_pay84 (k0_pay82 R A W B) (k0_pay83 R A W B) mu = k0_pay19 R A W B mu
    ∧ k0_pay91 R A W B mu = k0_pay19 R A W B mu
    ∧ k0_pay100 (k0_pay99 R A W B) mu = k0_pay19 R A W B mu
    ∧ k0_pay108 (k0_pay107 R A W) B mu = k0_pay19 R A W B mu
    ∧ k0_pay117 R A W B mu = k0_pay19 R A W B mu
    ∧ k0_pay128 (k0_pay126 R A W B) (k0_pay127 R A W B) (Scalar.ofBits .f32 0x3F800000#32) mu = k0_pay19 R A W B mu
    ∧ k0_pay135 (k0_pay134 R A) W B mu = k0_pay19 R A W B mu
    ∧ k0_pay144 R A W B mu = k0_pay19 R A W B mu
    ∧ k0_pay153 (k0_pay151 R A W B) (k0_pay152 R A W B) (Scalar.ofBits .f32 0x00000000#32) mu = k0_pay19 R A W B mu
    ∧ k0_pay160 R A W B mu = k0_pay19 R A W B mu
    ∧ k0_pay170 (k0_pay169 R A W B mu) = k0_pay19 R A W B mu
    ∧ k0_pay178 (k0_pay177 R A W B) mu = k0_pay19 R A W B mu := by
  refine ⟨?_, ?_, ?_, ?_, ?_, ?_, ?_, ?_, ?_, ?_, ?_, ?_, ?_, ?_, ?_, ?_, ?_, ?_⟩ <;> rfl

/-- Every head's key codes are computed by the same function of the row of scales, the head's lines of the product, of the weight's scales. -/
theorem k_heads (R : FVec F S1x128 .f32) (A W : Vec F S64x128 .f32) :
    k0_pay13 (k0_pay12 R A W) = k0_pay32 R A W
    ∧ k0_pay21 (k0_pay20 R A) W = k0_pay32 R A W
    ∧ k0_pay41 (k0_pay39 R A W) (k0_pay40 R A W) = k0_pay32 R A W
    ∧ k0_pay48 R A W = k0_pay32 R A W
    ∧ k0_pay59 (k0_pay58 R A W) = k0_pay32 R A W
    ∧ k0_pay68 (k0_pay65 R A W) (k0_pay66 R A W) (k0_pay67 R A W) = k0_pay32 R A W
    ∧ k0_pay76 R A W = k0_pay32 R A W
    ∧ k0_pay86 (Scalar.ofBits .f32 0x42FE0000#32) (k0_pay85 R A W) = k0_pay32 R A W
    ∧ k0_pay94 (k0_pay92 R A W) (k0_pay93 R A W) = k0_pay32 R A W
    ∧ k0_pay101 R A W = k0_pay32 R A W
    ∧ k0_pay111 (k0_pay109 R A W) (k0_pay110 (F := F)) = k0_pay32 R A W
    ∧ k0_pay119 (k0_pay118 R A) W = k0_pay32 R A W
    ∧ k0_pay129 R A W = k0_pay32 R A W
    ∧ k0_pay138 (k0_pay136 R A W) (k0_pay137 R A W) (Scalar.ofBits .f32 0x3F800000#32) = k0_pay32 R A W
    ∧ k0_pay145 R A W = k0_pay32 R A W
    ∧ k0_pay155 (k0_pay154 R A W) = k0_pay32 R A W
    ∧ k0_pay163 (k0_pay161 R A W) (k0_pay162 R A W) (Scalar.ofBits .f32 0x00000000#32) = k0_pay32 R A W
    ∧ k0_pay171 R A W = k0_pay32 R A W
    ∧ k0_pay180 (k0_pay179 R A W) (Scalar.ofBits .f32 0xC2FE0000#32) (Scalar.ofBits .f32 0x42FE0000#32) = k0_pay32 R A W := by
  refine ⟨?_, ?_, ?_, ?_, ?_, ?_, ?_, ?_, ?_, ?_, ?_, ?_, ?_, ?_, ?_, ?_, ?_, ?_, ?_⟩ <;> rfl

/-- Every head's value codes are computed by the same function of the row of scales, the head's lines of the product, of the weight's scales and of the bias. -/
theorem v_heads (R : FVec F S1x128 .f32) (A W B : Vec F S64x128 .f32) :
    k0_pay17 (k0_pay16 R A W B) = k0_pay35 R A W B
    ∧ k0_pay27 (k0_pay22 R A W B) (k0_pay23 R A W B) (k0_pay24 R A W B) (k0_pay25 (F := F)) = k0_pay35 R A W B
    ∧ k0_pay45 (k0_pay44 R A W B) = k0_pay35 R A W B
    ∧ k0_pay52 (k0_pay49 R A W B) (k0_pay50 R A W B) = k0_pay35 R A W B
    ∧ k0_pay62 R A W B = k0_pay35 R A W B
    ∧ k0_pay72 (k0_pay71 R A W B) = k0_pay35 R A W B
    ∧ k0_pay80 (k0_pay77 R A W) B = k0_pay35 R A W B
    ∧ k0_pay89 R A W B = k0_pay35 R A W B
    ∧ k0_pay97 (k0_pay95 R A W B) (k0_pay96 R A W B) = k0_pay35 R A W B
    ∧ k0_pay105 (k0_pay102 R A) W B = k0_pay35 R A W B
    ∧ k0_pay115 (k0_pay114 R A W B) = k0_pay35 R A W B
    ∧ k0_pay124 (k0_pay120 R A W B) (k0_pay121 R A W B) (k0_pay122 R A W B) = k0_pay35 R A W B
    ∧ k0_pay132 R A W B = k0_pay35 R A W B
    ∧ k0_pay142 (Scalar.ofBits .f32 0x42FE0000#32) (k0_pay141 R A W B) = k0_pay35 R A W B
    ∧ k0_pay149 (k0_pay146 R A W B) (k0_pay147 R A W B) = k0_pay35 R A W B
    ∧ k0_pay158 R A W B = k0_pay35 R A W B
    ∧ k0_pay167 (k0_pay164 R A W B) (k0_pay166 R A W B) = k0_pay35 R A W B
    ∧ k0_pay175 (k0_pay172 R A W) B = k0_pay35 R A W B
    ∧ k0_pay183 R A W B = k0_pay35 R A W B := by
  refine ⟨?_, ?_, ?_, ?_, ?_, ?_, ?_, ?_, ?_, ?_, ?_, ?_, ?_, ?_, ?_, ?_, ?_, ?_, ?_⟩ <;> rfl

/-- Every head's value scales are computed by the same function of the row of scales, the head's lines of the product, of the weight's scales and of the bias. -/
theorem vs_heads (R : FVec F S1x128 .f32) (A W B : Vec F S64x128 .f32) :
    k0_pay18 (k0_pay15 R A W B) = k0_pay36 R A W B
    ∧ k0_pay28 (k0_pay23 R A W B) (k0_pay24 R A W B) (k0_pay25 (F := F)) = k0_pay36 R A W B
    ∧ k0_pay46 (k0_pay43 R A W B) = k0_pay36 R A W B
    ∧ k0_pay53 (k0_pay50 R A W B) = k0_pay36 R A W B
    ∧ k0_pay63 R A W B = k0_pay36 R A W B
    ∧ k0_pay73 (k0_pay70 R A W B) = k0_pay36 R A W B
    ∧ k0_pay81 (k0_pay77 R A W) B = k0_pay36 R A W B
    ∧ k0_pay90 (k0_pay88 R A W B) = k0_pay36 R A W B
    ∧ k0_pay98 (k0_pay96 R A W B) = k0_pay36 R A W B
    ∧ k0_pay106 (k0_pay102 R A) W B = k0_pay36 R A W B
    ∧ k0_pay116 (k0_pay113 R A W B) = k0_pay36 R A W B
    ∧ k0_pay125 (k0_pay121 R A W B) (k0_pay122 R A W B) = k0_pay36 R A W B
    ∧ k0_pay133 R A W B = k0_pay36 R A W B
    ∧ k0_pay143 (k0_pay140 R A W B) = k0_pay36 R A W B
    ∧ k0_pay150 (k0_pay147 R A W B) = k0_pay36 R A W B
    ∧ k0_pay159 R A W B = k0_pay36 R A W B
    ∧ k0_pay168 (k0_pay165 R A W B) = k0_pay36 R A W B
    ∧ k0_pay176 (k0_pay172 R A W) B = k0_pay36 R A W B
    ∧ k0_pay1 (k0_pay182 R A W B) = k0_pay36 R A W B := by
  refine ⟨?_, ?_, ?_, ?_, ?_, ?_, ?_, ?_, ?_, ?_, ?_, ?_, ?_, ?_, ?_, ?_, ?_, ?_, ?_⟩ <;> rfl

end Cert.QkvIdeal.Run

end
-- ==== Proof.QkvRun.lean ====
module

public import proofs.«01_k».proof.Proof.QkvHeads
public import proofs.«01_k».proof.Proof.Gen.QkvIdeal.Frame
public import proofs.«01_k».proof.Proof.Gen.QkvIdeal.Skeleton
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.VecWindow
public import Idealize.ShloMosaic.Lib.WritesUnit

@[expose] public section

set_option maxRecDepth 16384

noncomputable section

namespace Cert.QkvIdeal.Run

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes of the first layer norm of one block of tokens. -/
def c1Block (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) : Vec F S1x128x1280 .fp8e4m3 :=
  k0_pay7 (k0_pay2 x0 x1 x2) (k0_pay4 x0 x1 x2) (k0_pay5 x0 x1 x2)
/-- The scales of the first layer norm of this block, one for each row. -/
def s1Row (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) : Vec F S1x128 .f32 := k0_pay8 (k0_pay4 x0 x1 x2) (k0_pay5 x0 x1 x2)
/-- The integer product of the weight with the codes of this block. -/
def accV (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) : Vec F S3840x128 .f32 := k0_pay9 x3 (c1Block x0 x1 x2 x3 x4 x5 x6 x7)

/-- The 64 lines from line `o` of an array of 3840 lines. -/
def lines3 (X : Vec F S3840x128 .f32) (o : ℕ) (ho : o + 64 ≤ 3840) : Vec F S64x128 .f32 :=
  View.ld X (Rect.unit (s := S3840x128) ![o, 0] S64x128.size fun a => by
    fin_cases a
    · exact ho
    · exact Nat.le_refl 128)
/-- The 64 lines from line `o` of an array of 1280 lines. -/
def lines1 (X : Vec F S1280x128 .f32) (o : ℕ) (ho : o + 64 ≤ 1280) : Vec F S64x128 .f32 :=
  View.ld X (Rect.unit (s := S1280x128) ![o, 0] S64x128.size fun a => by
    fin_cases a
    · exact ho
    · exact Nat.le_refl 128)

/-- One head of the normalised queries of this block. -/
def qHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x64x128 .bf16 :=
  k0_pay19 (s1Row x0 x1 x2 x3 x4 x5 x6 x7) (lines3 (accV x0 x1 x2 x3 x4 x5 x6 x7) (64 * h.val) (by omega)) (lines3 x4 (64 * h.val) (by omega)) (lines1 x5 (64 * h.val) (by omega)) (View.ld x7 (Rect.unit (s := S20) ![h.val] S1.size fun a => by
    fin_cases a
    exact h.isLt) (Shape.Idx.first (numel1_S1.symm ▸ Nat.one_pos)))
/-- One head of the codes of the keys of this block. -/
def kHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x64x128 .i8 :=
  k0_pay32 (s1Row x0 x1 x2 x3 x4 x5 x6 x7) (lines3 (accV x0 x1 x2 x3 x4 x5 x6 x7) (1280 + 64 * h.val) (by omega)) (lines3 x4 (1280 + 64 * h.val) (by omega))
/-- One head of the codes of the values of this block. -/
def vHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x64x128 .i8 :=
  k0_pay35 (s1Row x0 x1 x2 x3 x4 x5 x6 x7) (lines3 (accV x0 x1 x2 x3 x4 x5 x6 x7) (2560 + 64 * h.val) (by omega)) (lines3 x4 (2560 + 64 * h.val) (by omega)) (lines1 x6 (64 * h.val) (by omega))
/-- One head of the scales of the values of this block. -/
def vsHead (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (h : Fin 20) : Vec F S1x1x128 .f32 :=
  k0_pay36 (s1Row x0 x1 x2 x3 x4 x5 x6 x7) (lines3 (accV x0 x1 x2 x3 x4 x5 x6 x7) (2560 + 64 * h.val) (by omega)) (lines3 x4 (2560 + 64 * h.val) (by omega)) (lines1 x6 (64 * h.val) (by omega))

/-- The block whose head `h` is `P h`. -/
def tile {e : EltTy} (P : Fin 20 → S1x64x128.Idx → Elt F e) : S1x1280x128.Idx → Elt F e :=
  fun j => P ⟨(j 1).val / 64, by have := (j 1).isLt; change (j 1).val < 1280 at this; omega⟩
    (ix3 0 ⟨(j 1).val % 64, Nat.mod_lt _ (by norm_num)⟩ (j 2))

/-- The first `n` heads of a block are those of the tiled block. -/
def TileUpto {e : EltTy} (P : Fin 20 → S1x64x128.Idx → Elt F e) (n : ℕ) (g : S1x1280x128.Idx → Elt F e) : Prop :=
  ∀ y : S1x1280x128.Idx, (y 1).val < 64 * n → g y = tile P y
theorem TileUpto.zero {e : EltTy} (P : Fin 20 → S1x64x128.Idx → Elt F e) (g : S1x1280x128.Idx → Elt F e) : TileUpto P 0 g :=
  fun _ hy => absurd hy (Nat.not_lt_zero _)
theorem TileUpto.all {e : EltTy} {P : Fin 20 → S1x64x128.Idx → Elt F e} {g : S1x1280x128.Idx → Elt F e} (h : TileUpto P 20 g) : g = tile P :=
  funext fun y => h y (y 1).isLt

/-- Storing head `n` after heads `0` to `n - 1` leaves the first `n + 1` heads of the tiled block. -/
theorem tile_step {sp : Space} {e : EltTy} (v : View sig .tc sp S1x1280x128 e) (f : v.ty.Contents (Elt F)) (L : List (View.Piece (Elt F) S1x1280x128 e))
    (P : Fin 20 → S1x64x128.Idx → Elt F e) {n : ℕ} (hn : n < 20) {off : Fin 3 → ℕ} {inb : ∀ a, off a + S1x64x128.size a ≤ S1x1280x128.size a}
    {w : S1x64x128.Idx → Elt F e} (hoff : off = ![0, 64 * n, 0]) (hw : w = P ⟨n, hn⟩)
    (h : TileUpto P n (v.read (Elt F) (v.writes (Elt F) f L))) :
    TileUpto P (n + 1) (v.read (Elt F) (v.writes (Elt F) f (⟨Rect.unit (s := S1x1280x128) off S1x64x128.size inb, w⟩ :: L))) := by
  intro y hy
  by_cases h1 : (y 1).val < 64 * n
  · refine (View.read_writes_cons_unit_of_not_mem v f inb w L y hoff 1 (Or.inl ?_)).trans (h y h1)
    exact h1
  · refine (View.read_writes_cons_unit_of_mem v f inb w L y (ix3 0 ⟨(y 1).val % 64, Nat.mod_lt _ (by norm_num)⟩ (y 2)) hoff ?_).trans ?_
    · intro a
      fin_cases a
      · have := (y 0).isLt
        change (y 0).val < 1 at this
        show (y 0).val = 0 + 0
        omega
      · show (y 1).val = 64 * n + (y 1).val % 64
        omega
      · exact (Nat.zero_add _).symm
    · subst hw
      unfold tile
      congr 1
      exact Fin.ext (show n = (y 1).val / 64 by omega)

/-- A resident scale array with the row of grid point `i` overwritten. -/
def putRow (i : grid0.Coords) (y : Vec F S100x128 .f32) (p : Vec F S1x128 .f32) : Vec F S100x128 .f32 :=
  fun j => if (j 0).val = (i 0).val then p (ix2 0 (j 1)) else y j

/-- Storing a row at grid point `i` leaves `putRow`. -/
theorem read_writes_row {sp : Space} (v : View sig .tc sp S100x128 .f32) (f : v.ty.Contents (Elt F)) (i : grid0.Coords)
    (inb : ∀ a, k0_off1 i a + S1x128.size a ≤ S100x128.size a)
    (w : (Rect.unit (s := S100x128) (k0_off1 i) S1x128.size inb).shape.Idx → Elt F .f32) :
    v.read (Elt F) (v.writes (Elt F) f [⟨Rect.unit (s := S100x128) (k0_off1 i) S1x128.size inb, w⟩])
      = putRow i (v.read (Elt F) f) w := by
  funext j
  have h : k0_off1 i = ![(i 0).val, 0] := k0_off1_eq i
  unfold putRow
  split
  · rename_i hj
    exact View.read_writes_cons_rows_of_mem v f inb w [] j (ix2 0 (j 1)) h (by rw [hj]; rfl) rfl
  · rename_i hj
    exact View.read_writes_cons_rows_of_not_mem v f inb w [] j h (W := 1) rfl (by omega)

/-- A resident array of scales by head with the row of grid point `i` overwritten in every head. -/
def putRows (i : grid0.Coords) (y : Vec F S20x100x128 .f32) (p : Fin 20 → Vec F S1x1x128 .f32) : Vec F S20x100x128 .f32 :=
  fun j => if (j 1).val = (i 0).val then p (j 0) (ix3 0 0 (j 2)) else y j

/-- The row of grid point `i` is overwritten in the first `n` heads. -/
def RowsUpto (i : grid0.Coords) (y0 : Vec F S20x100x128 .f32) (P : Fin 20 → Vec F S1x1x128 .f32) (n : ℕ) (g : Vec F S20x100x128 .f32) : Prop :=
  ∀ y : S20x100x128.Idx, g y = if (y 0).val < n then putRows i y0 P y else y0 y
theorem RowsUpto.zero (i : grid0.Coords) (y0 : Vec F S20x100x128 .f32) (P : Fin 20 → Vec F S1x1x128 .f32) : RowsUpto i y0 P 0 y0 :=
  fun _ => (if_neg (Nat.not_lt_zero _)).symm
theorem RowsUpto.all {i : grid0.Coords} {y0 : Vec F S20x100x128 .f32} {P : Fin 20 → Vec F S1x1x128 .f32} {g : Vec F S20x100x128 .f32} (h : RowsUpto i y0 P 20 g) :
    g = putRows i y0 P :=
  funext fun y => (h y).trans (if_pos (y 0).isLt)

/-- Storing the row of head `n` after those of heads `0` to `n - 1`. -/
theorem rows_step {sp : Space} (v : View sig .tc sp S20x100x128 .f32) (f : v.ty.Contents (Elt F)) (i : grid0.Coords) (L : List (View.Piece (Elt F) S20x100x128 .f32))
    (P : Fin 20 → Vec F S1x1x128 .f32) {n : ℕ} (hn : n < 20) {off : Fin 3 → ℕ} [c : ClosedOff off] {inb : ∀ a, off a + S1x1x128.size a ≤ S20x100x128.size a}
    {w : Vec F S1x1x128 .f32} (hoff : c.form = ![n, (i 0).val, 0]) (hw : w = P ⟨n, hn⟩)
    (h : RowsUpto i (v.read (Elt F) f) P n (v.read (Elt F) (v.writes (Elt F) f L))) :
    RowsUpto i (v.read (Elt F) f) P (n + 1) (v.read (Elt F) (v.writes (Elt F) f (⟨Rect.unit (s := S20x100x128) off S1x1x128.size inb, w⟩ :: L))) := by
  intro y
  have ho : off = ![n, (i 0).val, 0] := c.eq.trans hoff
  by_cases h0 : (y 0).val = n
  · by_cases h1 : (y 1).val = (i 0).val
    · refine (View.read_writes_cons_unit_of_mem v f inb w L y (ix3 0 0 (y 2)) ho ?_).trans ?_
      · intro a
        fin_cases a
        · exact h0
        · exact h1
        · exact (Nat.zero_add _).symm
      · rw [if_pos (by omega)]
        unfold putRows
        rw [if_pos h1]
        subst hw
        exact congrFun (congrArg P (Fin.ext h0.symm)) _
    · refine (View.read_writes_cons_unit_of_not_mem v f inb w L y ho 1 ?_).trans ((h y).trans ?_)
      · show (y 1).val < (i 0).val ∨ (i 0).val + 1 ≤ (y 1).val
        omega
      · rw [if_neg (by omega), if_pos (by omega)]
        unfold putRows
        rw [if_neg h1]
  · refine (View.read_writes_cons_unit_of_not_mem v f inb w L y ho 0 ?_).trans ((h y).trans ?_)
    · show (y 0).val < n ∨ n + 1 ≤ (y 0).val
      omega
    · congr 1
      exact propext (by omega)

/-- Loading a part of what one store of the whole array left. -/
theorem readCov_part {sp : Space} (v : View sig .tc sp S3840x128 .f32) {off : Fin 2 → ℕ} (inb : ∀ a, off a + S3840x128.size a ≤ S3840x128.size a)
    (w : S3840x128.Idx → Elt F .f32) (r : Rect S3840x128) :
    v.readCov [⟨Rect.unit (s := S3840x128) off (no_index S3840x128.size) inb, w⟩] r.toLoadRect = View.ld w r := by
  show View.ld (v.read (Elt F) (v.writes (Elt F) v.junk _)) r = _
  rw [View.read_writes_full]

set_option maxHeartbeats 0 in
/-- What the body does at one grid point. -/
theorem body_run (c : Dev nD) (i : grid0.Coords) (arg1 : Memref sig .tc .vmem S1x128x1280 .bf16) (harg1 : arg1.IsWhole) (arg2 : Memref sig .tc .vmem S1x128x1280 .f32) (harg2 : arg2.IsWhole) (arg3 : Memref sig .tc .vmem S1x128x1280 .f32) (harg3 : arg3.IsWhole) (arg4 : Memref sig .tc .vmem S3840x1280 .fp8e4m3) (harg4 : arg4.IsWhole) (arg5 : Memref sig .tc .vmem S3840x128 .f32) (harg5 : arg5.IsWhole) (arg6 : Memref sig .tc .vmem S1280x128 .f32) (harg6 : arg6.IsWhole) (arg7 : Memref sig .tc .vmem S1280x128 .f32) (harg7 : arg7.IsWhole) (arg8 : Memref sig .tc .smem S20 .f32) (harg8 : arg8.IsWhole) (arg9 : Memref sig .tc .vmem S1x128x1280 .fp8e4m3) (harg9 : arg9.IsWhole) (arg10 : Memref sig .tc .vmem S100x128 .f32) (harg10 : arg10.IsWhole) (arg11 : Memref sig .tc .vmem S1x1280x128 .i8) (harg11 : arg11.IsWhole) (arg12 : Memref sig .tc .vmem S1x1280x128 .i8) (harg12 : arg12.IsWhole) (arg13 : Memref sig .tc .vmem S20x100x128 .f32) (harg13 : arg13.IsWhole) (arg14 : Memref sig .tc .vmem S1x1280x128 .bf16) (harg14 : arg14.IsWhole) (arg15 : Memref sig .tc .vmem S3840x128 .f32) (harg15 : arg15.IsWhole)
    (x0 : Vec F S1x128x1280 .bf16) (x1 : Vec F S1x128x1280 .f32) (x2 : Vec F S1x128x1280 .f32) (x3 : Vec F S3840x1280 .fp8e4m3) (x4 : Vec F S3840x128 .f32) (x5 : Vec F S1280x128 .f32) (x6 : Vec F S1280x128 .f32) (x7 : Vec F S20 .f32) (y9 : Vec F S100x128 .f32) (y12 : Vec F S20x100x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare y9 ∗ (∃ d, owns (c : Thread nD τ) arg11 fullShare d) ∗ (∃ d, owns (c : Thread nD τ) arg12 fullShare d) ∗ owns (c : Thread nD τ) arg13 fullShare y12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (c1Block x0 x1 x2 x3 x4 x5 x6 x7) ∗ owns (c : Thread nD τ) arg10 fullShare (putRow i y9 (s1Row x0 x1 x2 x3 x4 x5 x6 x7)) ∗ owns (c : Thread nD τ) arg11 fullShare (tile (kHead x0 x1 x2 x3 x4 x5 x6 x7)) ∗ owns (c : Thread nD τ) arg12 fullShare (tile (vHead x0 x1 x2 x3 x4 x5 x6 x7)) ∗ owns (c : Thread nD τ) arg13 fullShare (putRows i y12 (vsHead x0 x1 x2 x3 x4 x5 x6 x7)) ∗ owns (c : Thread nD τ) arg14 fullShare (tile (qHead x0 x1 x2 x3 x4 x5 x6 x7)) ∗ (∃ d, owns (c : Thread nD τ) arg15 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%f12, %hf12, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      frame_open
      rw [View.read_writes_full]
      simp (disch := decide) only [View.ld_unit_lit', View.readCov_unit_lit', View.readCov_cons_unit_lit', readCov_part, View.readAt_eq_ld, Memref.IsWhole.read_unread]
      simp only [c1Block]
      done
    isplitl [H9]
    · iexists _; isplitr; swap; · iexact H9
      ipureintro
      frame_open
      rw [read_writes_row]
      simp (disch := decide) only [View.ld_unit_lit', View.readCov_unit_lit', View.readCov_cons_unit_lit', readCov_part, View.readAt_eq_ld, Memref.IsWhole.read_unread]
      simp only [s1Row]
      done
    isplitl [H10]
    · iexists _; isplitr; swap; · iexact H10
      ipureintro
      frame_open
      simp (disch := decide) only [View.ld_unit_lit', View.readCov_unit_lit', View.readCov_cons_unit_lit', readCov_part, View.readAt_eq_ld, Memref.IsWhole.read_unread]
      simp only [k_heads]
      unfold kHead s1Row accV c1Block
      generalize k0_pay8 (F := F) _ _ = R
      generalize k0_pay9 (F := F) _ _ = A
      refine TileUpto.all ?_
      iterate 20 refine tile_step _ _ _ _ (by decide) (by rfl) (by rfl) ?_
      exact TileUpto.zero _ _
    isplitl [H11]
    · iexists _; isplitr; swap; · iexact H11
      ipureintro
      frame_open
      simp (disch := decide) only [View.ld_unit_lit', View.readCov_unit_lit', View.readCov_cons_unit_lit', readCov_part, View.readAt_eq_ld, Memref.IsWhole.read_unread]
      simp only [v_heads]
      unfold vHead s1Row accV c1Block
      generalize k0_pay8 (F := F) _ _ = R
      generalize k0_pay9 (F := F) _ _ = A
      refine TileUpto.all ?_
      iterate 20 refine tile_step _ _ _ _ (by decide) (by rfl) (by rfl) ?_
      exact TileUpto.zero _ _
    isplitl [H12]
    · iexists _; isplitr; swap; · iexact H12
      ipureintro
      frame_open
      simp (disch := decide) only [View.ld_unit_lit', View.readCov_unit_lit', View.readCov_cons_unit_lit', readCov_part, View.readAt_eq_ld, Memref.IsWhole.read_unread]
      simp only [vs_heads]
      unfold vsHead s1Row accV c1Block
      generalize k0_pay8 (F := F) _ _ = R
      generalize k0_pay9 (F := F) _ _ = A
      refine Eq.trans (RowsUpto.all ?_) (congrArg (fun z => putRows i z _) (harg13.read_unread y12))
      iterate 20 refine rows_step _ _ i _ _ (by decide) (by rfl) (by rfl) ?_
      exact RowsUpto.zero i _ _
    isplitl [H13]
    · iexists _; isplitr; swap; · iexact H13
      ipureintro
      frame_open
      simp (disch := decide) only [View.ld_unit_lit', View.readCov_unit_lit', View.readCov_cons_unit_lit', readCov_part, View.readAt_eq_ld, Memref.IsWhole.read_unread]
      simp only [q_head0, q_heads]
      unfold qHead s1Row accV c1Block
      generalize k0_pay8 (F := F) _ _ = R
      generalize k0_pay9 (F := F) _ _ = A
      refine TileUpto.all ?_
      iterate 20 refine tile_step _ _ _ _ (by decide) (by rfl) (by rfl) ?_
      exact TileUpto.zero _ _
    iexists _, _; isplitr; swap; · iexact HS0
    ipureintro; rfl

end Cert.QkvIdeal.Run

end
-- ==== Proof.QkvFrame.lean ====
module

public import proofs.«01_k».proof.Proof.QkvRun
public import Idealize.ShloMosaic.Lib.Pipeline.ArrRel

@[expose] public section

set_option maxRecDepth 16384

noncomputable section

namespace Cert.QkvIdeal.Run

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes of the first layer norm as grid point `t` computes them from the blocks it is handed. -/
def c1At (c : Dev nD) (t : Fin cfg0.N) : Vec F S1x128x1280 .fp8e4m3 := c1Block (iblk m c 0 t) (iblk m c 1 t) (iblk m c 2 t) (iblk m c 3 t) (iblk m c 4 t) (iblk m c 5 t) (iblk m c 6 t) (iblk m c 7 t)
/-- The scales of the first layer norm as grid point `t` computes them from the blocks it is handed. -/
def s1At (c : Dev nD) (t : Fin cfg0.N) : Vec F S1x128 .f32 := s1Row (iblk m c 0 t) (iblk m c 1 t) (iblk m c 2 t) (iblk m c 3 t) (iblk m c 4 t) (iblk m c 5 t) (iblk m c 6 t) (iblk m c 7 t)
/-- The codes of the keys as grid point `t` computes them from the blocks it is handed. -/
def kAt (c : Dev nD) (t : Fin cfg0.N) : Vec F S1x1280x128 .i8 := tile (kHead (iblk m c 0 t) (iblk m c 1 t) (iblk m c 2 t) (iblk m c 3 t) (iblk m c 4 t) (iblk m c 5 t) (iblk m c 6 t) (iblk m c 7 t))
/-- The codes of the values as grid point `t` computes them from the blocks it is handed. -/
def vAt (c : Dev nD) (t : Fin cfg0.N) : Vec F S1x1280x128 .i8 := tile (vHead (iblk m c 0 t) (iblk m c 1 t) (iblk m c 2 t) (iblk m c 3 t) (iblk m c 4 t) (iblk m c 5 t) (iblk m c 6 t) (iblk m c 7 t))
/-- The scales of the values as grid point `t` computes them from the blocks it is handed, head by head. -/
def vsAt (c : Dev nD) (t : Fin cfg0.N) : Fin 20 → Vec F S1x1x128 .f32 := vsHead (iblk m c 0 t) (iblk m c 1 t) (iblk m c 2 t) (iblk m c 3 t) (iblk m c 4 t) (iblk m c 5 t) (iblk m c 6 t) (iblk m c 7 t)
/-- The queries as grid point `t` computes them from the blocks it is handed. -/
def qAt (c : Dev nD) (t : Fin cfg0.N) : Vec F S1x1280x128 .bf16 := tile (qHead (iblk m c 0 t) (iblk m c 1 t) (iblk m c 2 t) (iblk m c 3 t) (iblk m c 4 t) (iblk m c 5 t) (iblk m c 6 t) (iblk m c 7 t))

/-- What the body leaves in an output's buffer at grid point `t`: the block of that point; in the two arrays of scales, which stay
    in place, the rows of all points so far. -/
def Rl (c : Dev nD) (w : Fin cfg0.W) (t : Fin cfg0.N) : ((cfg0.win w).block.Idx → Elt F (cfg0.win w).elt) → Prop :=
  match w with
  | ⟨8, _⟩ => fun X => X = c1At m c t
  | ⟨9, _⟩ => fun (X : Vec F S100x128 .f32) => ∀ (s : Fin cfg0.N), s.val ≤ t.val → ∀ j : S100x128.Idx, (j 0).val = s.val → X j = s1At m c s (ix2 0 (j 1))
  | ⟨10, _⟩ => fun X => X = kAt m c t
  | ⟨11, _⟩ => fun X => X = vAt m c t
  | ⟨12, _⟩ => fun (X : Vec F S20x100x128 .f32) => ∀ (s : Fin cfg0.N), s.val ≤ t.val → ∀ j : S20x100x128.Idx, (j 1).val = s.val → X j = vsAt m c s (j 0) (ix3 0 0 (j 2))
  | ⟨13, _⟩ => fun X => X = qAt m c t
  | _ => fun _ => True

/-- The argument arrays end unchanged. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev ms0_0 (t : Fin cfg0.N) : Memref sig .tc .vmem S1x128x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3840x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3840x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S20 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x1280 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S100x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280x128 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S20x100x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1280x128 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S3840x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output windows. -/
def forgets0 : Fin 14 → Bool := fun w => w.val == 8 || w.val == 9 || w.val == 10 || w.val == 11 || w.val == 12 || w.val == 13

/-- The proof data of the one pipeline on core `c`: each input's buffer holds its block; the outputs are held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨_ + 14, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The proof data with the outputs held to `Rl`. -/
abbrev rdat (c : Dev nD) : Pipeline.RDat τ (Elt F) Unit ℕ (UR sig nD τ) ℕ (cfgs 0) c := (dats m 0 c).toRRel forgets0 (Rl m c)

theorem coords_val : ∀ t : Fin grid0.N, (grid0.coords t 0).val = t.val := by decide +kernel

/-- Before point `t`, the rows of the earlier points stand. -/
theorem found_9 (c : Dev nD) (t : Fin cfg0.N) (Y : Vec F S100x128 .f32) (h : (rdat m c).Finds 9 t Y) :
    ∀ (s : Fin cfg0.N), s.val < t.val → ∀ j : S100x128.Idx, (j 0).val = s.val → Y j = s1At m c s (ix2 0 (j 1)) := by
  intro s hs j hj
  have ht : t.val ≠ 0 := by omega
  rcases ((rdat m c).finds_of_pos (w := 9) (t := t) rfl ht Y).mp h with hf | hl
  · have h1 := (flush0_9 _).mp hf
    have h2 : t.val < 100 := t.isLt
    simp only at h1
    omega
  · exact (Dat.toRRel_leaves (dats m 0 c) (fgt := forgets0) (Rl := Rl m c) (w := 9) rfl hl) s (by show s.val ≤ t.val - 1; omega) j hj

/-- After point `t`, its row stands too. -/
theorem left_9 (c : Dev nD) (t : Fin cfg0.N) (Y : Vec F S100x128 .f32) (h : (rdat m c).Finds 9 t Y) :
    Rl m c 9 t (putRow (grid0.coords t) Y (s1At m c t)) := by
  intro s hs j hj
  unfold putRow
  split
  · rename_i h'
    rw [coords_val] at h'
    have : s = t := Fin.ext (by omega)
    rw [this]
  · rename_i h'
    rw [coords_val] at h'
    exact found_9 m c t Y h s (by omega) j hj

/-- Before point `t`, the rows of the earlier points stand. -/
theorem found_12 (c : Dev nD) (t : Fin cfg0.N) (Y : Vec F S20x100x128 .f32) (h : (rdat m c).Finds 12 t Y) :
    ∀ (s : Fin cfg0.N), s.val < t.val → ∀ j : S20x100x128.Idx, (j 1).val = s.val → Y j = vsAt m c s (j 0) (ix3 0 0 (j 2)) := by
  intro s hs j hj
  have ht : t.val ≠ 0 := by omega
  rcases ((rdat m c).finds_of_pos (w := 12) (t := t) rfl ht Y).mp h with hf | hl
  · have h1 := (flush0_12 _).mp hf
    have h2 : t.val < 100 := t.isLt
    simp only at h1
    omega
  · exact (Dat.toRRel_leaves (dats m 0 c) (fgt := forgets0) (Rl := Rl m c) (w := 12) rfl hl) s (by show s.val ≤ t.val - 1; omega) j hj

/-- After point `t`, its row stands too. -/
theorem left_12 (c : Dev nD) (t : Fin cfg0.N) (Y : Vec F S20x100x128 .f32) (h : (rdat m c).Finds 12 t Y) :
    Rl m c 12 t (putRows (grid0.coords t) Y (vsAt m c t)) := by
  intro s hs j hj
  unfold putRows
  split
  · rename_i h'
    rw [coords_val] at h'
    have : s = t := Fin.ext (by omega)
    rw [this]
  · rename_i h'
    rw [coords_val] at h'
    exact found_12 m c t Y h s (by omega) j hj

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %h8, H8⟩, ⟨%Y9, %h9, H9⟩, ⟨%Y10, %h10, H10⟩, ⟨%Y11, %h11, H11⟩, ⟨%Y12, %h12, H12⟩, ⟨%Y13, %h13, H13⟩⟩
  iapply (body_run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Y9 Y12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexact H12
  isplitl [H13]; · iexists _; iexact H13
  isplitl [HS0]; · iexact HS0
  iintro ⟨H0, H1, H2, H3, H4, H5, H6, H7, H8, H9, H10, H11, H12, H13, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact rfl
  isplitl [H9]
  · iexists _; isplitr; swap; · iexact H9
    ipureintro; exact left_9 m c t Y9 h9
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact left_12 m c t Y12 h12
  iexists _; isplitr; swap; · iexact H13
  ipureintro; exact rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run and the frame -/

set_option backward.isDefEq.respectTransparency.types false in
/-- The run: every array ends at contents that `Rl` allows, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := fun _ => .rfl) (hout := fun _ => .rfl) (hQ' := fun _ h => h)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_ofR m ρ (rdat m) (A_eq m) ((θ_run defs _ _).mono (fun _ h => h.1) (run_main_quiescent m ρ))

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.QkvIdeal.Run

end
-- ==== Proof.QkvSpec.lean ====
/- What the call that makes queries, keys and values computes for one token, over the extended reals. -/
module

public import proofs.«01_k».proof.Proof.MaxAt

@[expose] public section

noncomputable section

namespace Cert.Spec

open Idealize.ShloMosaic

/-- The length of a vector. -/
def root {n : ℕ} (v : Fin n → EReal) : EReal := Ideal.sqrt (∑ d, v d * v d)

/-- What a vector is divided by to have length one: its length, or one where that is zero. -/
def nrm {n : ℕ} (v : Fin n → EReal) : EReal := if 0 < root v then root v else 1

/-- The int8 scale of a row: its largest absolute value over 127, or one where the row is zero. -/
def scale8 {n : ℕ} (v : Fin n → EReal) : EReal :=
  if 0 < amax v then Ideal.div (amax v) (Ideal.ofBits FTy.f32 0x42FE0000#32) else 1

/-- The int8 code of a number: rounded to an integer, ties to even, and clipped to ±127. -/
def code8 (z : EReal) : BitVec 8 :=
  FloatOps.fptosi (F := Ideal) (φ := .f32) 8 (min (Ideal.ofBits FTy.f32 0x42FE0000#32) (max (Ideal.ofBits FTy.f32 0xC2FE0000#32) (FloatOps.roundeven (F := Ideal) (φ := .f32) z)))

theorem ofBits_127 : Ideal.ofBits FTy.f32 0x42FE0000#32 = ((127 : ℝ) : EReal) := by
  simp [Ideal.ofBits, Ideal.ieee, -EReal.coe_mul]; norm_num

/-- An int8 scale is never zero. -/
theorem scale8_ne_zero {n : ℕ} (v : Fin n → EReal) : scale8 v ≠ 0 := by
  unfold scale8
  split
  · rename_i h
    rw [ofBits_127]; exact (div_real_pos (by norm_num) h).ne'
  · exact one_ne_zero

/-- What a vector is divided by is never zero. -/
theorem nrm_ne_zero {n : ℕ} (v : Fin n → EReal) : nrm v ≠ 0 := by
  unfold nrm
  split
  · rename_i h
    exact h.ne'
  · exact one_ne_zero

/-- A vector of int8 scales, computed from a vector of `amax`es, at an index. -/
theorem scale8_select {s : Shape} (M : FVec Ideal s .f32) (i : s.Idx) {n : ℕ} (v : Fin n → EReal) (h : M i = amax v) :
    select (cmpf .ogt M (broadcast s (Scalar.ofBits (F := Ideal) .f32 0x00000000#32))) (divf M (broadcast s (Scalar.ofBits (F := Ideal) .f32 0x42FE0000#32)))
      (broadcast s (Scalar.ofBits (F := Ideal) .f32 0x3F800000#32)) i = scale8 v := by
  have : (if 0 < M i then Ideal.div (M i) (Ideal.ofBits FTy.f32 0x42FE0000#32) else 1) = scale8 v := by rw [h]; rfl
  refine Eq.trans ?_ this
  pointwise

/-- The maximum of absolute values over the first of two axes, at an index, is the column's `amax`. -/
theorem amax_col {n0 n1 : ℕ} (v : FVec Ideal ⟨2, ![n0, n1]⟩ .f32) (h : (⟨2, ![n0, n1]⟩ : Shape).Reduces [0] ⟨1, ![n1]⟩)
    (hφ : FKind.Formats .f32) (hacc : (0xFF800000#32 : BitVec 32) = FKind.maximumf.neutral .f32 hφ) (j : Fin n1) :
    multiReduction .maximumf [0] ⟨1, ![n1]⟩ (absf v) 0xFF800000#32 h hφ hacc (ix1 j) = amax (fun k : Fin n0 => v (ix2 k j)) := by
  pointwise
  rfl

/-- The maximum of absolute values over the last of four axes, at an index. -/
theorem amax_at4 {n0 n1 n2 n3 : ℕ} (v : FVec Ideal ⟨4, ![n0, n1, n2, n3]⟩ .f32) (h : (⟨4, ![n0, n1, n2, n3]⟩ : Shape).Reduces [3] ⟨3, ![n0, n1, n2]⟩)
    (hφ : FKind.Formats .f32) (hacc : (0xFF800000#32 : BitVec 32) = FKind.maximumf.neutral .f32 hφ) (i : Fin n0) (j : Fin n1) (k : Fin n2) :
    multiReduction .maximumf [3] ⟨3, ![n0, n1, n2]⟩ (absf v) 0xFF800000#32 h hφ hacc (ix3 i j k) = amax (fun d : Fin n3 => v (ix4 i j k d)) := by
  pointwise
  rfl

/-- What one token's queries, keys and values are computed from: its residual stream `x`, its modulation rows, the weight's codes
    and scales, the biases of queries and values, and the factor of each head's queries. -/
structure QTok where
  x : Fin 1280 → EReal
  sc : Fin 1280 → EReal
  sh : Fin 1280 → EReal
  w : Fin 1280 → Fin 3840 → EReal
  ws : Fin 3840 → EReal
  qb : Fin 1280 → EReal
  vb : Fin 1280 → EReal
  mu : Fin 20 → EReal

namespace QTok

variable (T : QTok)

/-- Line `d` of head `h`, of 1280 lines. -/
def at1 (h : Fin 20) (d : Fin 64) : Fin 1280 := ⟨64 * h.val + d.val, by omega⟩
/-- Line `d` of head `h` of the queries, keys and values (`g` 0, 1 and 2), of 3840 lines. -/
def at3 (g : Fin 3) (h : Fin 20) (d : Fin 64) : Fin 3840 := ⟨1280 * g.val + (64 * h.val + d.val), by omega⟩

/-- The first layer norm. -/
def h1 (k : Fin 1280) : EReal := norm T.x T.sc T.sh k
/-- One line of the linear layer, without bias. -/
def pre (o : Fin 3840) : EReal := (∑ k, code T.h1 k * T.w k o) * scale T.h1 * T.ws o
/-- The queries of a head before they are normalised. -/
def qv (h : Fin 20) (d : Fin 64) : EReal := T.pre (at3 0 h d) + T.qb (at1 h d)
/-- The keys of a head before they are normalised. -/
def kv (h : Fin 20) (d : Fin 64) : EReal := T.pre (at3 1 h d)
/-- The values of a head. -/
def vv (h : Fin 20) (d : Fin 64) : EReal := T.pre (at3 2 h d) + T.vb (at1 h d)
/-- The normalised queries. -/
def q (h : Fin 20) (d : Fin 64) : EReal := Ideal.div (T.qv h d) (nrm (T.qv h)) * T.mu h
/-- The codes of the normalised keys. -/
def kc (h : Fin 20) (d : Fin 64) : BitVec 8 := code8 (Ideal.div (T.kv h d) (nrm (T.kv h)) * Ideal.ofBits FTy.f32 0x42FE0000#32)
/-- The scale of the values. -/
def vs (h : Fin 20) : EReal := scale8 (T.vv h)
/-- The codes of the values. -/
def vc (h : Fin 20) (d : Fin 64) : BitVec 8 := code8 (Ideal.div (T.vv h d) (scale8 (T.vv h)))

end QTok

/-- The factor of a head's queries, from its logarithm: bounded above, then exponentiated. -/
def mulFactor (z : EReal) : EReal := Ideal.exp (min z (Ideal.ofBits FTy.f32 0x40935D8E#32))

/-- Position `s` of sample `b` of the arguments. -/
def argQTok (x : Fin 128 → Fin 100 → Fin 1280 → EReal) (ada : Fin 128 → Fin 6 → Fin 1280 → EReal) (w : Fin 1280 → Fin 3840 → EReal)
    (ws : Fin 3840 → EReal) (qb vb : Fin 1280 → EReal) (mu : Fin 20 → EReal) (s : Fin 100) (b : Fin 128) : QTok where
  x k := x b s k
  sc k := ada b 2 k
  sh k := ada b 4 k
  w := w
  ws := ws
  qb := qb
  vb := vb
  mu := mu

end Cert.Spec

end
-- ==== Proof.QkvPay.lean ====
/- The arithmetic of the kernel of queries, keys and values, value by value, at an index. -/
module

public import proofs.«01_k».proof.Proof.Gen.QkvIdeal.Skeleton
public import proofs.«01_k».proof.Proof.QkvSpec
public import Idealize.ShloMosaic.Lib.Pipeline.Value

@[expose] public section

set_option maxRecDepth 16384

noncomputable section

namespace Cert.QkvIdeal.Run

open Cert.QkvIdeal Cert.QkvIdeal.Gen Cert.Spec
open Idealize.ShloMosaic

theorem pay2_at (x : Vec Ideal S1x128x1280 .bf16) (sc sh : Vec Ideal S1x128x1280 .f32) (b : Fin 128) (k : Fin 1280) :
    k0_pay2 (F := Ideal) x sc sh (ix2 b k) = norm (fun k => x (ix3 0 b k)) (fun k => sc (ix3 0 b k)) (fun k => sh (ix3 0 b k)) k := by
  pointwise [k0_pay2]
  rw [show ∀ a c d e : EReal, a = c → a * d + e = c * d + e from fun a c d e h => by rw [h]]
  · rfl
  · exact mul_div_one (den_ne_zero _)
theorem pay3_at (x : Vec Ideal S1x128x1280 .bf16) (sc sh : Vec Ideal S1x128x1280 .f32) (b : Fin 128) (q : Fin 1) :
    k0_pay3 (F := Ideal) x sc sh (ix2 b q) = amax (fun k => k0_pay2 (F := Ideal) x sc sh (ix2 b k)) := by
  unfold k0_pay3
  generalize k0_pay2 (F := Ideal) x sc sh = X
  have key : ∀ M : FVec Ideal S128 .f32, (shapeCast S128x1 M shapeCasts_S128_S128x1 : FVec Ideal S128x1 .f32) (ix2 b q) = M (ix1 b) := by
    intro M
    pointwise
  exact (key _).trans (amax_at2 X reduces_S128x1280_S128 (.inl rfl) rfl b)
theorem pay6_at (x : Vec Ideal S1x128x1280 .bf16) (sc sh : Vec Ideal S1x128x1280 .f32) (b : Fin 128) (q : Fin 1) :
    k0_pay6 (F := Ideal) (k0_pay4 x sc sh) (k0_pay5 x sc sh) (ix2 b q) = scale (fun k => k0_pay2 (F := Ideal) x sc sh (ix2 b k)) := by
  unfold k0_pay6 k0_pay4 k0_pay5
  exact scale_select _ _ _ (pay3_at x sc sh b q)
theorem pay7_at (x : Vec Ideal S1x128x1280 .bf16) (sc sh : Vec Ideal S1x128x1280 .f32) (q : Fin 1) (b : Fin 128) (k : Fin 1280) :
    k0_pay7 (F := Ideal) (k0_pay2 x sc sh) (k0_pay4 x sc sh) (k0_pay5 x sc sh) (ix3 q b k) = code (fun k => k0_pay2 (F := Ideal) x sc sh (ix2 b k)) k := by
  unfold k0_pay7
  have h := pay6_at x sc sh b 0
  generalize k0_pay6 (F := Ideal) (k0_pay4 x sc sh) (k0_pay5 x sc sh) = Y at h ⊢
  generalize k0_pay2 (F := Ideal) x sc sh = X at h ⊢
  pointwise
  rw [h, mul_div_one (scale_ne_zero _)]
  rfl
theorem pay8_at (x : Vec Ideal S1x128x1280 .bf16) (sc sh : Vec Ideal S1x128x1280 .f32) (q : Fin 1) (b : Fin 128) :
    k0_pay8 (F := Ideal) (k0_pay4 x sc sh) (k0_pay5 x sc sh) (ix2 q b) = scale (fun k => k0_pay2 (F := Ideal) x sc sh (ix2 b k)) := by
  unfold k0_pay8
  refine Eq.trans ?_ (pay6_at x sc sh b 0)
  generalize k0_pay6 (F := Ideal) (k0_pay4 x sc sh) (k0_pay5 x sc sh) = Y
  pointwise
theorem pay9_at (w : Vec Ideal S3840x1280 .fp8e4m3) (c : Vec Ideal S1x128x1280 .fp8e4m3) (o : Fin 3840) (b : Fin 128) :
    k0_pay9 (F := Ideal) w c (ix2 o b) = ∑ k : Fin 1280, w (ix2 o k) * c (ix3 0 b k) := by
  pointwise [k0_pay9]
theorem pay19_at (r : Vec Ideal S1x128 .f32) (a w qb : Vec Ideal S64x128 .f32) (mu : EReal) (q : Fin 1) (d : Fin 64) (b : Fin 128) :
    k0_pay19 (F := Ideal) r a w qb mu (ix3 q d b)
      = Ideal.div (a (ix2 d b) * r (ix2 0 b) * w (ix2 d b) + qb (ix2 d b)) (nrm (fun d : Fin 64 => a (ix2 d b) * r (ix2 0 b) * w (ix2 d b) + qb (ix2 d b))) * mu := by
  pointwise [k0_pay19]
  refine congrArg (· * mu) ?_
  exact mul_div_one (nrm_ne_zero (fun d : Fin 64 => a (ix2 d b) * r (ix2 0 b) * w (ix2 d b) + qb (ix2 d b)))
theorem pay32_at (r : Vec Ideal S1x128 .f32) (a w : Vec Ideal S64x128 .f32) (q : Fin 1) (d : Fin 64) (b : Fin 128) :
    k0_pay32 (F := Ideal) r a w (ix3 q d b)
      = code8 (Ideal.div (a (ix2 d b) * r (ix2 0 b) * w (ix2 d b)) (nrm (fun d : Fin 64 => a (ix2 d b) * r (ix2 0 b) * w (ix2 d b))) * Ideal.ofBits FTy.f32 0x42FE0000#32) := by
  pointwise [k0_pay32]
  unfold code8
  rw [← mul_div_one (nrm_ne_zero (fun d : Fin 64 => a (ix2 d b) * r (ix2 0 b) * w (ix2 d b)))]
  rfl
theorem pay33_at (r : Vec Ideal S1x128 .f32) (a w vb : Vec Ideal S64x128 .f32) (d : Fin 64) (b : Fin 128) :
    k0_pay33 (F := Ideal) r a w vb (ix2 d b) = a (ix2 d b) * r (ix2 0 b) * w (ix2 d b) + vb (ix2 d b) := by
  pointwise [k0_pay33]
theorem pay34_at (r : Vec Ideal S1x128 .f32) (a w vb : Vec Ideal S64x128 .f32) (q : Fin 1) (b : Fin 128) :
    k0_pay34 (F := Ideal) r a w vb (ix2 q b) = scale8 (fun d : Fin 64 => k0_pay33 (F := Ideal) r a w vb (ix2 d b)) := by
  unfold k0_pay34
  generalize k0_pay33 (F := Ideal) r a w vb = X
  have key : ∀ M : FVec Ideal S128 .f32, (shapeCast S1x128 M shapeCasts_S128_S1x128 : FVec Ideal S1x128 .f32) (ix2 q b) = M (ix1 b) := by
    intro M
    pointwise
  exact scale8_select _ _ _ ((key _).trans (amax_col X reduces_S64x128_S128 (.inl rfl) rfl b))
theorem pay35_at (r : Vec Ideal S1x128 .f32) (a w vb : Vec Ideal S64x128 .f32) (q : Fin 1) (d : Fin 64) (b : Fin 128) :
    k0_pay35 (F := Ideal) r a w vb (ix3 q d b)
      = code8 (Ideal.div (k0_pay33 (F := Ideal) r a w vb (ix2 d b)) (scale8 (fun d : Fin 64 => k0_pay33 (F := Ideal) r a w vb (ix2 d b)))) := by
  unfold k0_pay35
  have h := pay34_at r a w vb 0 b
  generalize k0_pay34 (F := Ideal) r a w vb = Y at h ⊢
  generalize k0_pay33 (F := Ideal) r a w vb = X at h ⊢
  pointwise
  rw [h, mul_div_one (scale8_ne_zero _)]
  rfl
theorem pay36_at (r : Vec Ideal S1x128 .f32) (a w vb : Vec Ideal S64x128 .f32) (q q' : Fin 1) (b : Fin 128) :
    k0_pay36 (F := Ideal) r a w vb (ix3 q q' b) = scale8 (fun d : Fin 64 => k0_pay33 (F := Ideal) r a w vb (ix2 d b)) := by
  unfold k0_pay36
  refine Eq.trans ?_ (pay34_at r a w vb 0 b)
  generalize k0_pay34 (F := Ideal) r a w vb = Y
  pointwise

end Cert.QkvIdeal.Run

end
-- ==== Proof.QkvKernel.lean ====
/- What one grid point of the kernel computes, entry by entry, is what `Spec.QTok` says of each of its tokens. -/
module

public import proofs.«01_k».proof.Proof.QkvRun
public import proofs.«01_k».proof.Proof.QkvPay

@[expose] public section

set_option maxRecDepth 16384

noncomputable section

namespace Cert.QkvIdeal.Run

open Cert.QkvIdeal Cert.QkvIdeal.Gen Cert.Spec
open Idealize.ShloMosaic

/-- Token `b` of the block of arguments. -/
def tokB (x0 : Vec Ideal S1x128x1280 .bf16) (x1 x2 : Vec Ideal S1x128x1280 .f32) (x3 : Vec Ideal S3840x1280 .fp8e4m3) (x4 : Vec Ideal S3840x128 .f32) (x5 x6 : Vec Ideal S1280x128 .f32) (x7 : Vec Ideal S20 .f32) (b : Fin 128) : QTok where
  x k := x0 (ix3 0 b k)
  sc k := x1 (ix3 0 b k)
  sh k := x2 (ix3 0 b k)
  w k o := x3 (ix2 o k)
  ws o := x4 (ix2 o b)
  qb o := x5 (ix2 o b)
  vb o := x6 (ix2 o b)
  mu h := x7 (ix1 h)

theorem lines3_at (X : Vec Ideal S3840x128 .f32) (o : ℕ) (ho : o + 64 ≤ 3840) (d : Fin 64) (b : Fin 128) (l : Fin 3840) (hl : l.val = o + d.val) :
    lines3 X o ho (ix2 d b) = X (ix2 l b) := by
  unfold lines3
  refine congrArg X (funext fun a => Fin.ext ?_)
  match a with
  | ⟨0, _⟩ => show o + 1 * d.val = l.val; omega
  | ⟨1, _⟩ => show 0 + 1 * b.val = b.val; omega
theorem lines1_at (X : Vec Ideal S1280x128 .f32) (o : ℕ) (ho : o + 64 ≤ 1280) (d : Fin 64) (b : Fin 128) (l : Fin 1280) (hl : l.val = o + d.val) :
    lines1 X o ho (ix2 d b) = X (ix2 l b) := by
  unfold lines1
  refine congrArg X (funext fun a => Fin.ext ?_)
  match a with
  | ⟨0, _⟩ => show o + 1 * d.val = l.val; omega
  | ⟨1, _⟩ => show 0 + 1 * b.val = b.val; omega

variable (x0 : Vec Ideal S1x128x1280 .bf16) (x1 x2 : Vec Ideal S1x128x1280 .f32) (x3 : Vec Ideal S3840x1280 .fp8e4m3) (x4 : Vec Ideal S3840x128 .f32) (x5 x6 : Vec Ideal S1280x128 .f32) (x7 : Vec Ideal S20 .f32)

theorem h1_at (b : Fin 128) : (fun k => k0_pay2 (F := Ideal) x0 x1 x2 (ix2 b k)) = (tokB x0 x1 x2 x3 x4 x5 x6 x7 b).h1 :=
  funext fun k => pay2_at x0 x1 x2 b k
theorem c1Block_at (q : Fin 1) (b : Fin 128) (k : Fin 1280) : c1Block x0 x1 x2 x3 x4 x5 x6 x7 (ix3 q b k) = code (tokB x0 x1 x2 x3 x4 x5 x6 x7 b).h1 k := by
  unfold c1Block
  rw [pay7_at, h1_at x0 x1 x2 x3 x4 x5 x6 x7]
theorem s1Row_at (q : Fin 1) (b : Fin 128) : s1Row x0 x1 x2 x3 x4 x5 x6 x7 (ix2 q b) = scale (tokB x0 x1 x2 x3 x4 x5 x6 x7 b).h1 := by
  unfold s1Row
  rw [pay8_at, h1_at x0 x1 x2 x3 x4 x5 x6 x7]
theorem accV_at (o : Fin 3840) (b : Fin 128) : accV x0 x1 x2 x3 x4 x5 x6 x7 (ix2 o b) = ∑ k, code (tokB x0 x1 x2 x3 x4 x5 x6 x7 b).h1 k * (tokB x0 x1 x2 x3 x4 x5 x6 x7 b).w k o := by
  unfold accV
  rw [pay9_at]
  refine Finset.sum_congr rfl fun k _ => ?_
  rw [c1Block_at, mul_comm]
  rfl
theorem pre_at (g : Fin 3) (h : Fin 20) (d : Fin 64) (b : Fin 128) (o : ℕ) (ho : o + 64 ≤ 3840) (hg : o = 1280 * g.val + 64 * h.val) :
    lines3 (accV x0 x1 x2 x3 x4 x5 x6 x7) o ho (ix2 d b) * s1Row x0 x1 x2 x3 x4 x5 x6 x7 (ix2 0 b) * lines3 x4 o ho (ix2 d b) = (tokB x0 x1 x2 x3 x4 x5 x6 x7 b).pre (QTok.at3 g h d) := by
  have e : (QTok.at3 g h d).val = o + d.val := by show 1280 * g.val + (64 * h.val + d.val) = _; omega
  rw [lines3_at _ o ho d b _ e, lines3_at _ o ho d b _ e, accV_at, s1Row_at]
  rfl
theorem qHead_at (h : Fin 20) (q : Fin 1) (d : Fin 64) (b : Fin 128) : qHead x0 x1 x2 x3 x4 x5 x6 x7 h (ix3 q d b) = (tokB x0 x1 x2 x3 x4 x5 x6 x7 b).q h d := by
  unfold qHead
  rw [pay19_at]
  simp only [pre_at x0 x1 x2 x3 x4 x5 x6 x7 0 h _ b (64 * h.val) _ (by show _ = 1280 * 0 + _; omega), lines1_at x5 (64 * h.val) _ _ b (QTok.at1 h _) rfl]
  refine congrArg (Ideal.div ((tokB x0 x1 x2 x3 x4 x5 x6 x7 b).qv h d) (nrm ((tokB x0 x1 x2 x3 x4 x5 x6 x7 b).qv h)) * ·) ?_
  refine congrArg x7 (funext fun a => Fin.ext ?_)
  match a with
  | ⟨0, _⟩ => rfl
theorem kHead_at (h : Fin 20) (q : Fin 1) (d : Fin 64) (b : Fin 128) : kHead x0 x1 x2 x3 x4 x5 x6 x7 h (ix3 q d b) = (tokB x0 x1 x2 x3 x4 x5 x6 x7 b).kc h d := by
  unfold kHead
  rw [pay32_at]
  simp only [pre_at x0 x1 x2 x3 x4 x5 x6 x7 1 h _ b (1280 + 64 * h.val) _ (by show _ = 1280 * 1 + _; omega)]
  rfl
theorem vv_at (h : Fin 20) (ho ho') (d : Fin 64) (b : Fin 128) :
    k0_pay33 (F := Ideal) (s1Row x0 x1 x2 x3 x4 x5 x6 x7) (lines3 (accV x0 x1 x2 x3 x4 x5 x6 x7) (2560 + 64 * h.val) ho) (lines3 x4 (2560 + 64 * h.val) ho) (lines1 x6 (64 * h.val) ho') (ix2 d b) = (tokB x0 x1 x2 x3 x4 x5 x6 x7 b).vv h d := by
  rw [pay33_at, pre_at x0 x1 x2 x3 x4 x5 x6 x7 2 h _ b (2560 + 64 * h.val) _ (by show _ = 1280 * 2 + _; omega), lines1_at x6 (64 * h.val) _ _ b (QTok.at1 h _) rfl]
  rfl
theorem vHead_at (h : Fin 20) (q : Fin 1) (d : Fin 64) (b : Fin 128) : vHead x0 x1 x2 x3 x4 x5 x6 x7 h (ix3 q d b) = (tokB x0 x1 x2 x3 x4 x5 x6 x7 b).vc h d := by
  unfold vHead
  rw [pay35_at]
  simp only [vv_at x0 x1 x2 x3 x4 x5 x6 x7]
  rfl
theorem vsHead_at (h : Fin 20) (q q' : Fin 1) (b : Fin 128) : vsHead x0 x1 x2 x3 x4 x5 x6 x7 h (ix3 q q' b) = (tokB x0 x1 x2 x3 x4 x5 x6 x7 b).vs h := by
  unfold vsHead
  rw [pay36_at]
  simp only [vv_at x0 x1 x2 x3 x4 x5 x6 x7]
  rfl

end Cert.QkvIdeal.Run

end
-- ==== Proof.QkvRead.lean ====
/- What each grid point of the kernel of queries, keys and values reads, in terms of the argument arrays. -/
module

public import proofs.«01_k».proof.Proof.Gen.QkvIdeal.Frame
public import proofs.«01_k».proof.Proof.QkvSpec
public import Idealize.ShloMosaic.Lib.Pipeline.ValueKit
public import Idealize.ShloMosaic.Lib.Pipeline.ArrRel

@[expose] public section

set_option maxRecDepth 16384

noncomputable section

namespace Cert.QkvIdeal.Run

open Cert.QkvIdeal Cert.QkvIdeal.Gen Cert.Spec
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- Token `(s, b)` of the argument arrays. -/
def tok (c : Dev nD) (s : Fin 100) (b : Fin 128) : QTok :=
  argQTok (fun b s k => m ((c : Thread nD τ).loc main_arg0) (ix3 b s k)) (fun b s k => m ((c : Thread nD τ).loc main_arg1) (ix3 b s k)) (fun j k => m ((c : Thread nD τ).loc main_arg2) (ix2 j k)) (fun k => m ((c : Thread nD τ).loc main_arg3) (ix1 k))
    (fun k => m ((c : Thread nD τ).loc main_arg4) (ix1 k)) (fun k => m ((c : Thread nD τ).loc main_arg5) (ix1 k)) (fun h => mulFactor (m ((c : Thread nD τ).loc main_arg6) (ix1 h))) s b

/-- Where each window's block lies at grid point `t`. -/
theorem idx : ∀ t : Fin cfg0.N, win0_0.index t = ![t.val, 0, 0] ∧ win0_1.index t = ![2, 0, 0] ∧ win0_2.index t = ![4, 0, 0] ∧ win0_3.index t = ![0, 0] ∧ win0_4.index t = ![0, 0] ∧ win0_5.index t = ![0, 0] ∧ win0_6.index t = ![0, 0] ∧ win0_7.index t = ![0] ∧ win0_8.index t = ![t.val, 0, 0] ∧ win0_10.index t = ![t.val, 0, 0] ∧ win0_11.index t = ![t.val, 0, 0] ∧ win0_13.index t = ![t.val, 0, 0] :=
  (by decide +kernel : ∀ t : Fin grid0.N, _)

/-- Grid point `t` is row `t`. -/
def tIx (t : Fin cfg0.N) : Fin 100 := ⟨t.val, t.isLt⟩

theorem read_0 (c : Dev nD) (t : Fin cfg0.N) (b : Fin 128) (k : Fin 1280) : iblk m c 0 t (ix3 0 b k) = m ((c : Thread nD τ).loc main_arg0) (ix3 b (tIx t) k) := by
  have h := idx t
  blk_ext! [iblk, V, h, tIx]
theorem read_1 (c : Dev nD) (t : Fin cfg0.N) (b : Fin 128) (k : Fin 1280) : iblk m c 1 t (ix3 0 b k) = m ((c : Thread nD τ).loc main_arg1) (ix3 b 2 k) := by
  have h := idx t
  blk_ext! [iblk, V, h, tIx]
theorem read_2 (c : Dev nD) (t : Fin cfg0.N) (b : Fin 128) (k : Fin 1280) : iblk m c 2 t (ix3 0 b k) = m ((c : Thread nD τ).loc main_arg1) (ix3 b 4 k) := by
  have h := idx t
  blk_ext! [iblk, V, h, tIx]
theorem read_3 (c : Dev nD) (t : Fin cfg0.N) (o : Fin 3840) (k : Fin 1280) : iblk m c 3 t (ix2 o k) = m ((c : Thread nD τ).loc main_arg2) (ix2 k o) := by
  have h := idx t
  blk_ext! [iblk, V, h, tIx]
theorem read_4 (c : Dev nD) (t : Fin cfg0.N) (o : Fin 3840) (b : Fin 128) : iblk m c 4 t (ix2 o b) = m ((c : Thread nD τ).loc main_arg3) (ix1 o) := by
  have h := idx t
  blk_ext! [iblk, V, h, tIx]
theorem read_5 (c : Dev nD) (t : Fin cfg0.N) (o : Fin 1280) (b : Fin 128) : iblk m c 5 t (ix2 o b) = m ((c : Thread nD τ).loc main_arg4) (ix1 o) := by
  have h := idx t
  blk_ext! [iblk, V, h, tIx]
theorem read_6 (c : Dev nD) (t : Fin cfg0.N) (o : Fin 1280) (b : Fin 128) : iblk m c 6 t (ix2 o b) = m ((c : Thread nD τ).loc main_arg5) (ix1 o) := by
  have h := idx t
  blk_ext! [iblk, V, h, tIx]
theorem read_7 (c : Dev nD) (t : Fin cfg0.N) (h' : Fin 20) : iblk m c 7 t (ix1 h') = mulFactor (m ((c : Thread nD τ).loc main_arg6) (ix1 h')) := by
  have h := idx t
  blk_ext! [iblk, V, h, tIx]

end Cert.QkvIdeal.Run

end
-- ==== Proof.QkvArray.lean ====
/- What the kernel of queries, keys and values leaves in its result arrays, index by index, from the argument arrays. -/
module

public import proofs.«01_k».proof.Proof.QkvFrame
public import proofs.«01_k».proof.Proof.QkvKernel
public import proofs.«01_k».proof.Proof.QkvRead
public import Idealize.ShloMosaic.Lib.Pipeline.ValueKit
public import Idealize.ShloMosaic.Lib.Pipeline.ArrRel

@[expose] public section

set_option maxRecDepth 16384

noncomputable section

namespace Cert.QkvIdeal.Run

open Cert.QkvIdeal Cert.QkvIdeal.Gen Cert.Spec
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The head of a line, and its place in the head. -/
def hOf (o : Fin 1280) : Fin 20 := ⟨o.val / 64, by omega⟩
def dOf (o : Fin 1280) : Fin 64 := ⟨o.val % 64, by omega⟩

/-- A tiled block at an index. -/
theorem tile_at {e : EltTy} (P : Fin 20 → S1x64x128.Idx → Elt Ideal e) (q : Fin 1) (o : Fin 1280) (b : Fin 128) :
    tile P (ix3 q o b) = P (hOf o) (ix3 0 (dOf o) b) := rfl

/-- Token `b` of the blocks at point `t` is token `(t, b)` of the arrays. -/
theorem tokB_eq (c : Dev nD) (t : Fin cfg0.N) (b : Fin 128) : tokB (iblk m c 0 t) (iblk m c 1 t) (iblk m c 2 t) (iblk m c 3 t) (iblk m c 4 t) (iblk m c 5 t) (iblk m c 6 t) (iblk m c 7 t) b = tok m c (tIx t) b := by
  unfold tokB tok argQTok
  simp only [read_0, read_1, read_2, read_3, read_4, read_5, read_6, read_7]

/-- The last grid point. -/
def tLast : Fin cfg0.N := ⟨99, by decide⟩

/-- The codes of the first layer norm, as an array. -/
def c1Arr (c : Dev nD) : Vec Ideal S100x128x1280 .fp8e4m3 := fun i => code (tok m c (i 0) (i 1)).h1 (i 2)
theorem c1At_eq (c : Dev nD) (t : Fin cfg0.N) (q : Fin 1) (b : Fin 128) (k : Fin 1280) : c1At m c t (ix3 q b k) = code (tok m c (tIx t) b).h1 k := by
  unfold c1At
  rw [c1Block_at, tokB_eq]
/-- The block of point `t` is row `t` of the array. -/
theorem c1At_arr (c : Dev nD) (t : Fin cfg0.N) (y : S1x128x1280.Idx) (j : S100x128x1280.Idx) (h0 : (j 0).val = t.val) (h1 : (j 1).val = (y 1).val)
    (h2 : (j 2).val = (y 2).val) : c1At m c t y = c1Arr m c j := by
  have hy : y = ix3 (y 0) (y 1) (y 2) := (ix3_eta y).symm
  have e0 : (j 0 : Fin 100) = tIx t := Fin.ext h0
  have e1 : (j 1 : Fin 128) = y 1 := Fin.ext h1
  have e2 : (j 2 : Fin 1280) = y 2 := Fin.ext h2
  refine (congrArg (c1At m c t) hy).trans ((c1At_eq m c t _ _ _).trans ?_)
  unfold c1Arr
  rw [e0, e1, e2]
/-- The whole array after the run. -/
theorem c1_array (r : PUnit × MemSt nD τ sig (Elt Ideal)) (h : Pipeline.RDat.FramePost (cfgs 0) (rdat m) (V m) r) (c : Dev nD) :
    r.2.mem ((c : Thread nD τ).loc main_v12_0) = c1Arr m c := by
  obtain ⟨after, ha, hm⟩ := Pipeline.RDat.FramePost.exists_exact h c
  refine (hm 8).trans ?_
  refine Dat.arrAt_eq_of_covers _ 8 _ (by decide +kernel) fun t hf y => ?_
  have hl := ha 8 t hf
  have hl' : after 8 t = c1At m c t := Dat.toRRel_leaves (dats m 0 c) (fgt := forgets0) (Rl := Rl m c) (w := 8) rfl hl
  have hi := idx t
  show after 8 t y = c1Arr m c ((win0_8.blk t).view.emb y)
  rw [hl']
  refine c1At_arr m c t y _ ?_ ?_ ?_ <;> (blk_simp [hi]; try omega)
/-- The scales of the first layer norm, as an array. -/
def s1Arr (c : Dev nD) : Vec Ideal S100x128 .f32 := fun i => scale (tok m c (i 0) (i 1)).h1
theorem s1At_eq (c : Dev nD) (t : Fin cfg0.N) (q : Fin 1) (b : Fin 128) : s1At m c t (ix2 q b) = scale (tok m c (tIx t) b).h1 := by
  unfold s1At
  rw [s1Row_at, tokB_eq]
/-- The row of point `t` is row `t` of the array. -/
theorem s1At_arr (c : Dev nD) (t : Fin cfg0.N) (j : S100x128.Idx) (h0 : (j 0).val = t.val) : s1At m c t (ix2 0 (j 1)) = s1Arr m c j := by
  have e0 : (j 0 : Fin 100) = tIx t := Fin.ext h0
  refine (s1At_eq m c t _ _).trans ?_
  unfold s1Arr
  rw [e0]
/-- The whole array after the run. -/
theorem s1_array (r : PUnit × MemSt nD τ sig (Elt Ideal)) (h : Pipeline.RDat.FramePost (cfgs 0) (rdat m) (V m) r) (c : Dev nD) :
    r.2.mem ((c : Thread nD τ).loc main_v12_1) = s1Arr m c := by
  obtain ⟨after, ha, hm⟩ := Pipeline.RDat.FramePost.exists_exact h c
  refine (hm 9).trans ?_
  refine Dat.arrAt_eq_of_after_last _ 9 tLast (by decide +kernel) _ fun j => ?_
  have hl := ha 9 tLast ((flush0_9 tLast).mpr rfl)
  have hl' := Dat.toRRel_leaves (dats m 0 c) (fgt := forgets0) (Rl := Rl m c) (w := 9) rfl hl
  have hr : (j 0).val < 100 := (j 0).isLt
  show after 9 tLast j = s1Arr m c j
  exact (hl' ⟨(j 0).val, hr⟩ (by show (j 0).val ≤ 99; omega) j rfl).trans (s1At_arr m c _ j rfl)
/-- The codes of the keys, as an array. -/
def kArr (c : Dev nD) : Vec Ideal S100x1280x128 .i8 := fun i => (tok m c (i 0) (i 2)).kc (hOf (i 1)) (dOf (i 1))
theorem kAt_eq (c : Dev nD) (t : Fin cfg0.N) (q : Fin 1) (o : Fin 1280) (b : Fin 128) : kAt m c t (ix3 q o b) = (tok m c (tIx t) b).kc (hOf o) (dOf o) := by
  unfold kAt
  rw [tile_at, kHead_at, tokB_eq]
/-- The block of point `t` is row `t` of the array. -/
theorem kAt_arr (c : Dev nD) (t : Fin cfg0.N) (y : S1x1280x128.Idx) (j : S100x1280x128.Idx) (h0 : (j 0).val = t.val) (h1 : (j 1).val = (y 1).val)
    (h2 : (j 2).val = (y 2).val) : kAt m c t y = kArr m c j := by
  have hy : y = ix3 (y 0) (y 1) (y 2) := (ix3_eta y).symm
  have e0 : (j 0 : Fin 100) = tIx t := Fin.ext h0
  have e1 : (j 1 : Fin 1280) = y 1 := Fin.ext h1
  have e2 : (j 2 : Fin 128) = y 2 := Fin.ext h2
  refine (congrArg (kAt m c t) hy).trans ((kAt_eq m c t _ _ _).trans ?_)
  unfold kArr
  rw [e0, e1, e2]
/-- The whole array after the run. -/
theorem k_array (r : PUnit × MemSt nD τ sig (Elt Ideal)) (h : Pipeline.RDat.FramePost (cfgs 0) (rdat m) (V m) r) (c : Dev nD) :
    r.2.mem ((c : Thread nD τ).loc main_v12_2) = kArr m c := by
  obtain ⟨after, ha, hm⟩ := Pipeline.RDat.FramePost.exists_exact h c
  refine (hm 10).trans ?_
  refine Dat.arrAt_eq_of_covers _ 10 _ (by decide +kernel) fun t hf y => ?_
  have hl := ha 10 t hf
  have hl' : after 10 t = kAt m c t := Dat.toRRel_leaves (dats m 0 c) (fgt := forgets0) (Rl := Rl m c) (w := 10) rfl hl
  have hi := idx t
  show after 10 t y = kArr m c ((win0_10.blk t).view.emb y)
  rw [hl']
  refine kAt_arr m c t y _ ?_ ?_ ?_ <;> (blk_simp [hi]; try omega)
/-- The codes of the values, as an array. -/
def vArr (c : Dev nD) : Vec Ideal S100x1280x128 .i8 := fun i => (tok m c (i 0) (i 2)).vc (hOf (i 1)) (dOf (i 1))
theorem vAt_eq (c : Dev nD) (t : Fin cfg0.N) (q : Fin 1) (o : Fin 1280) (b : Fin 128) : vAt m c t (ix3 q o b) = (tok m c (tIx t) b).vc (hOf o) (dOf o) := by
  unfold vAt
  rw [tile_at, vHead_at, tokB_eq]
/-- The block of point `t` is row `t` of the array. -/
theorem vAt_arr (c : Dev nD) (t : Fin cfg0.N) (y : S1x1280x128.Idx) (j : S100x1280x128.Idx) (h0 : (j 0).val = t.val) (h1 : (j 1).val = (y 1).val)
    (h2 : (j 2).val = (y 2).val) : vAt m c t y = vArr m c j := by
  have hy : y = ix3 (y 0) (y 1) (y 2) := (ix3_eta y).symm
  have e0 : (j 0 : Fin 100) = tIx t := Fin.ext h0
  have e1 : (j 1 : Fin 1280) = y 1 := Fin.ext h1
  have e2 : (j 2 : Fin 128) = y 2 := Fin.ext h2
  refine (congrArg (vAt m c t) hy).trans ((vAt_eq m c t _ _ _).trans ?_)
  unfold vArr
  rw [e0, e1, e2]
/-- The whole array after the run. -/
theorem v_array (r : PUnit × MemSt nD τ sig (Elt Ideal)) (h : Pipeline.RDat.FramePost (cfgs 0) (rdat m) (V m) r) (c : Dev nD) :
    r.2.mem ((c : Thread nD τ).loc main_v12_3) = vArr m c := by
  obtain ⟨after, ha, hm⟩ := Pipeline.RDat.FramePost.exists_exact h c
  refine (hm 11).trans ?_
  refine Dat.arrAt_eq_of_covers _ 11 _ (by decide +kernel) fun t hf y => ?_
  have hl := ha 11 t hf
  have hl' : after 11 t = vAt m c t := Dat.toRRel_leaves (dats m 0 c) (fgt := forgets0) (Rl := Rl m c) (w := 11) rfl hl
  have hi := idx t
  show after 11 t y = vArr m c ((win0_11.blk t).view.emb y)
  rw [hl']
  refine vAt_arr m c t y _ ?_ ?_ ?_ <;> (blk_simp [hi]; try omega)
/-- The scales of the values, as an array. -/
def vsArr (c : Dev nD) : Vec Ideal S20x100x128 .f32 := fun i => (tok m c (i 1) (i 2)).vs (i 0)
theorem vsAt_eq (c : Dev nD) (t : Fin cfg0.N) (h : Fin 20) (q q' : Fin 1) (b : Fin 128) : vsAt m c t h (ix3 q q' b) = (tok m c (tIx t) b).vs h := by
  unfold vsAt
  rw [vsHead_at, tokB_eq]
/-- The row of point `t` is row `t` of the array. -/
theorem vsAt_arr (c : Dev nD) (t : Fin cfg0.N) (j : S20x100x128.Idx) (h0 : (j 1).val = t.val) : vsAt m c t (j 0) (ix3 0 0 (j 2)) = vsArr m c j := by
  have e0 : (j 1 : Fin 100) = tIx t := Fin.ext h0
  refine (vsAt_eq m c t _ _ _ _).trans ?_
  unfold vsArr
  rw [e0]
/-- The whole array after the run. -/
theorem vs_array (r : PUnit × MemSt nD τ sig (Elt Ideal)) (h : Pipeline.RDat.FramePost (cfgs 0) (rdat m) (V m) r) (c : Dev nD) :
    r.2.mem ((c : Thread nD τ).loc main_v12_4) = vsArr m c := by
  obtain ⟨after, ha, hm⟩ := Pipeline.RDat.FramePost.exists_exact h c
  refine (hm 12).trans ?_
  refine Dat.arrAt_eq_of_after_last _ 12 tLast (by decide +kernel) _ fun j => ?_
  have hl := ha 12 tLast ((flush0_12 tLast).mpr rfl)
  have hl' := Dat.toRRel_leaves (dats m 0 c) (fgt := forgets0) (Rl := Rl m c) (w := 12) rfl hl
  have hr : (j 1).val < 100 := (j 1).isLt
  show after 12 tLast j = vsArr m c j
  exact (hl' ⟨(j 1).val, hr⟩ (by show (j 1).val ≤ 99; omega) j rfl).trans (vsAt_arr m c _ j rfl)
/-- The queries, as an array. -/
def qArr (c : Dev nD) : Vec Ideal S100x1280x128 .bf16 := fun i => (tok m c (i 0) (i 2)).q (hOf (i 1)) (dOf (i 1))
theorem qAt_eq (c : Dev nD) (t : Fin cfg0.N) (q : Fin 1) (o : Fin 1280) (b : Fin 128) : qAt m c t (ix3 q o b) = (tok m c (tIx t) b).q (hOf o) (dOf o) := by
  unfold qAt
  rw [tile_at, qHead_at, tokB_eq]
/-- The block of point `t` is row `t` of the array. -/
theorem qAt_arr (c : Dev nD) (t : Fin cfg0.N) (y : S1x1280x128.Idx) (j : S100x1280x128.Idx) (h0 : (j 0).val = t.val) (h1 : (j 1).val = (y 1).val)
    (h2 : (j 2).val = (y 2).val) : qAt m c t y = qArr m c j := by
  have hy : y = ix3 (y 0) (y 1) (y 2) := (ix3_eta y).symm
  have e0 : (j 0 : Fin 100) = tIx t := Fin.ext h0
  have e1 : (j 1 : Fin 1280) = y 1 := Fin.ext h1
  have e2 : (j 2 : Fin 128) = y 2 := Fin.ext h2
  refine (congrArg (qAt m c t) hy).trans ((qAt_eq m c t _ _ _).trans ?_)
  unfold qArr
  rw [e0, e1, e2]
/-- The whole array after the run. -/
theorem q_array (r : PUnit × MemSt nD τ sig (Elt Ideal)) (h : Pipeline.RDat.FramePost (cfgs 0) (rdat m) (V m) r) (c : Dev nD) :
    r.2.mem ((c : Thread nD τ).loc main_v12_5) = qArr m c := by
  obtain ⟨after, ha, hm⟩ := Pipeline.RDat.FramePost.exists_exact h c
  refine (hm 13).trans ?_
  refine Dat.arrAt_eq_of_covers _ 13 _ (by decide +kernel) fun t hf y => ?_
  have hl := ha 13 t hf
  have hl' : after 13 t = qAt m c t := Dat.toRRel_leaves (dats m 0 c) (fgt := forgets0) (Rl := Rl m c) (w := 13) rfl hl
  have hi := idx t
  show after 13 t y = qArr m c ((win0_13.blk t).view.emb y)
  rw [hl']
  refine qAt_arr m c t y _ ?_ ?_ ?_ <;> (blk_simp [hi]; try omega)

end Cert.QkvIdeal.Run

end
-- ==== Proof.QkvRefPay.lean ====
/- The arithmetic of the reference of queries, keys and values, value by value, at an index. -/
module

public import proofs.«01_k».proof.Proof.Gen.QkvReferenceIdeal.Skeleton
public import proofs.«01_k».proof.Proof.QkvSpec
public import Idealize.ShloMosaic.Lib.Pipeline.Value

@[expose] public section

set_option maxRecDepth 16384

noncomputable section

namespace Cert.QkvReferenceIdeal.Val

open Cert.QkvReferenceIdeal Cert.QkvReferenceIdeal.Gen Cert.Spec
open Idealize.ShloMosaic

theorem pay6_at (x : Vec Ideal S100x128x1280 .bf16) (a : Vec Ideal S6x128x1280 .f32) (s : Fin 100) (b : Fin 128) (k : Fin 1280) :
    k0_pay6 (F := Ideal) x a (ix3 s b k) = norm (fun k => x (ix3 s b k)) (fun k => a (ix3 2 b k)) (fun k => a (ix3 4 b k)) k := by
  pointwise [k0_pay6]
  rfl
theorem pay7_at (x : Vec Ideal S100x128x1280 .bf16) (a : Vec Ideal S6x128x1280 .f32) (s : Fin 100) (b : Fin 128) :
    k0_pay7 (F := Ideal) x a (ix2 s b) = scale (fun k => k0_pay6 (F := Ideal) x a (ix3 s b k)) := by
  unfold k0_pay7
  exact scale_select _ _ _ (amax_at3 (k0_pay6 (F := Ideal) x a) reduces_S100x128x1280_S100x128 (.inl rfl) rfl s b)
theorem pay9_at (v : FVec Ideal S100x128x1280 .f32) (i : S100x128x1280.Idx) :
    k0_pay9 (F := Ideal) v i = min (Ideal.ofBits FTy.f32 0x43E00000#32) (max (Ideal.ofBits FTy.f32 0xC3E00000#32) (v i)) := by
  pointwise [k0_pay9]
theorem pay8_at (x : Vec Ideal S100x128x1280 .bf16) (a : Vec Ideal S6x128x1280 .f32) (s : Fin 100) (b : Fin 128) (k : Fin 1280) :
    k0_pay8 (F := Ideal) x a (ix3 s b k) = Ideal.div (k0_pay6 (F := Ideal) x a (ix3 s b k)) (scale (fun k => k0_pay6 (F := Ideal) x a (ix3 s b k))) := by
  have key : ∀ (X : FVec Ideal S100x128x1280 .f32) (M : FVec Ideal S100x128 .f32),
      (divf X (broadcastTo S100x128x1280 (shapeCast S100x128x1 M shapeCasts_S100x128_S100x128x1) broadcasts_S100x128x1_S100x128x1280) : FVec Ideal S100x128x1280 .f32) (ix3 s b k)
        = Ideal.div (X (ix3 s b k)) (M (ix2 s b)) := by
    intro X M
    pointwise
  unfold k0_pay8
  exact (key _ _).trans (congrArg (Ideal.div _) (pay7_at x a s b))
theorem code_def {n : ℕ} (v : Fin n → EReal) (k : Fin n) : code v k
    = min (Ideal.ofBits FTy.f32 0x43E00000#32) (max (Ideal.ofBits FTy.f32 0xC3E00000#32) (Ideal.div (v k) (scale v))) := rfl
/-- The codes of the first layer norm. -/
theorem code_at (x : Vec Ideal S100x128x1280 .bf16) (a : Vec Ideal S6x128x1280 .f32) (s : Fin 100) (b : Fin 128) (k : Fin 1280) :
    k0_pay9 (F := Ideal) (k0_pay8 x a) (ix3 s b k) = code (fun k => k0_pay6 (F := Ideal) x a (ix3 s b k)) k := by
  rw [pay9_at, code_def, pay8_at]
/-- An array of 1280 lines read as 20 heads of 64 lines. -/
theorem heads_at (X : FVec Ideal S100x128x1280 .f32) (s : Fin 100) (b : Fin 128) (h : Fin 20) (d : Fin 64) :
    (shapeCast S100x128x20x64 X shapeCasts_S100x128x1280_S100x128x20x64 : FVec Ideal S100x128x20x64 .f32) (ix4 s b h d) = X (ix3 s b (QTok.at1 h d)) := by
  pointwise
  refine congrArg X (funext fun i => Fin.ext ?_)
  match i with
  | ⟨0, _⟩ => rfl
  | ⟨1, _⟩ => rfl
  | ⟨2, _⟩ => show h.val * 64 + d.val = 64 * h.val + d.val; omega
theorem pay11_at (r : FVec Ideal S100x128 .f32) (v : FVec Ideal S100x128x1280 .f32) (w : Vec Ideal S1280x3840 .fp8e4m3) (ws : Vec Ideal S1x1x3840 .f32) (qb : Vec Ideal S1x1x1280 .f32)
    (s : Fin 100) (b : Fin 128) (h : Fin 20) (d : Fin 64) :
    k0_pay11 (F := Ideal) r v w ws qb (ix4 s b h d)
      = (∑ x : Fin 1280, k0_pay9 (F := Ideal) v (ix3 s b x) * w (ix2 x (QTok.at3 0 h d))) * r (ix2 s b) * ws (ix3 0 0 (QTok.at3 0 h d)) + qb (ix3 0 0 (QTok.at1 h d)) := by
  unfold k0_pay11 k0_pay10
  generalize k0_pay9 (F := Ideal) v = C
  refine (heads_at _ s b h d).trans ?_
  have hp : (QTok.at3 0 h d).val = (QTok.at1 h d).val := by show 1280 * 0 + (64 * h.val + d.val) = (64 * h.val + d.val); omega
  generalize QTok.at3 0 h d = p at hp ⊢
  generalize QTok.at1 h d = o at hp ⊢
  obtain rfl : p = ⟨o.val, Nat.lt_of_lt_of_le o.isLt (by decide)⟩ := Fin.ext hp
  pointwise
theorem pay12_at (r : FVec Ideal S100x128 .f32) (v : FVec Ideal S100x128x1280 .f32) (w : Vec Ideal S1280x3840 .fp8e4m3) (ws : Vec Ideal S1x1x3840 .f32)
    (s : Fin 100) (b : Fin 128) (h : Fin 20) (d : Fin 64) :
    k0_pay12 (F := Ideal) r v w ws (ix4 s b h d)
      = (∑ x : Fin 1280, k0_pay9 (F := Ideal) v (ix3 s b x) * w (ix2 x (QTok.at3 1 h d))) * r (ix2 s b) * ws (ix3 0 0 (QTok.at3 1 h d)) := by
  unfold k0_pay12 k0_pay10
  generalize k0_pay9 (F := Ideal) v = C
  refine (heads_at _ s b h d).trans ?_
  have hp : (QTok.at3 1 h d).val = 1280 + (QTok.at1 h d).val := by show 1280 * 1 + (64 * h.val + d.val) = 1280 + (64 * h.val + d.val); omega
  generalize QTok.at3 1 h d = p at hp ⊢
  generalize QTok.at1 h d = o at hp ⊢
  obtain rfl : p = ⟨1280 + o.val, Nat.lt_of_lt_of_le (Nat.add_lt_add_left o.isLt 1280) (by decide)⟩ := Fin.ext hp
  pointwise
theorem pay13_at (ws : Vec Ideal S1x1x3840 .f32) (h : Fin 20) (d : Fin 64) :
    k0_pay13 (F := Ideal) ws (ix3 0 0 (QTok.at1 h d)) = ws (ix3 0 0 (QTok.at3 2 h d)) := by
  unfold k0_pay13 k0_pay10
  have hp : (QTok.at3 2 h d).val = 2560 + (QTok.at1 h d).val := by show 1280 * 2 + (64 * h.val + d.val) = 2560 + (64 * h.val + d.val); omega
  generalize QTok.at3 2 h d = p at hp ⊢
  generalize QTok.at1 h d = o at hp ⊢
  obtain rfl : p = ⟨2560 + o.val, Nat.lt_of_lt_of_le (Nat.add_lt_add_left o.isLt 2560) (by decide)⟩ := Fin.ext hp
  pointwise
theorem pay14_eq (v : Vec Ideal S1x1x1280 .f32) : k0_pay14 (F := Ideal) v = v := by
  unfold k0_pay14; simp only [shapeCast_self]
theorem pay15_at (v : FVec Ideal S100x128x1280 .f32) (w : Vec Ideal S1280x3840 .fp8e4m3) (s : Fin 100) (b : Fin 128) (h : Fin 20) (d : Fin 64) :
    k0_pay15 (F := Ideal) v w (ix3 s b (QTok.at1 h d)) = ∑ x : Fin 1280, k0_pay9 (F := Ideal) v (ix3 s b x) * w (ix2 x (QTok.at3 2 h d)) := by
  unfold k0_pay15
  generalize k0_pay9 (F := Ideal) v = C
  have hp : (QTok.at3 2 h d).val = 2560 + (QTok.at1 h d).val := by show 1280 * 2 + (64 * h.val + d.val) = 2560 + (64 * h.val + d.val); omega
  generalize QTok.at3 2 h d = p at hp ⊢
  generalize QTok.at1 h d = o at hp ⊢
  obtain rfl : p = ⟨2560 + o.val, Nat.lt_of_lt_of_le (Nat.add_lt_add_left o.isLt 2560) (by decide)⟩ := Fin.ext hp
  pointwise
theorem pay16_at (r : FVec Ideal S100x128 .f32) (ws vb : FVec Ideal S1x1x1280 .f32) (a : FVec Ideal S100x128x1280 .f32) (s : Fin 100) (b : Fin 128) (h : Fin 20) (d : Fin 64) :
    k0_pay16 (F := Ideal) r ws vb a (ix4 s b h d)
      = a (ix3 s b (QTok.at1 h d)) * r (ix2 s b) * ws (ix3 0 0 (QTok.at1 h d)) + vb (ix3 0 0 (QTok.at1 h d)) := by
  unfold k0_pay16
  refine (heads_at _ s b h d).trans ?_
  generalize QTok.at1 h d = o
  pointwise
theorem pay17_at (v : FVec Ideal S100x128x20x64 .f32) (mu : Vec Ideal S1x1x20x1 .f32) (s : Fin 100) (b : Fin 128) (h : Fin 20) (d : Fin 64) :
    k0_pay17 (F := Ideal) v mu (ix4 s b h d) = Ideal.div (v (ix4 s b h d)) (nrm (fun d : Fin 64 => v (ix4 s b h d))) * mu (ix4 0 0 h 0) := by
  pointwise [k0_pay17]
  rfl
theorem pay18_at (v : FVec Ideal S100x128x20x64 .f32) (s : Fin 100) (b : Fin 128) (h : Fin 20) (d : Fin 64) :
    k0_pay18 (F := Ideal) v (ix4 s b h d) = code8 (Ideal.div (v (ix4 s b h d)) (nrm (fun d : Fin 64 => v (ix4 s b h d))) * Ideal.ofBits FTy.f32 0x42FE0000#32) := by
  pointwise [k0_pay18]
  rfl
/-- The scale of the values. -/
theorem pay1_at (r : FVec Ideal S100x128 .f32) (ws vb : FVec Ideal S1x1x1280 .f32) (a : FVec Ideal S100x128x1280 .f32) (s : Fin 100) (b : Fin 128) (h : Fin 20) :
    k0_pay1 (F := Ideal) (k0_pay19 r ws vb a) (k0_pay20 r ws vb a) (ix3 s b h) = scale8 (fun d : Fin 64 => k0_pay16 (F := Ideal) r ws vb a (ix4 s b h d)) := by
  unfold k0_pay1 k0_pay20 k0_pay19
  exact scale8_select _ _ _ (amax_at4 (k0_pay16 (F := Ideal) r ws vb a) reduces_S100x128x20x64_S100x128x20 (.inl rfl) rfl s b h)
/-- The head of a line. -/
def hOf (o : Fin 1280) : Fin 20 := ⟨o.val / 64, by omega⟩
/-- The line of its head that a line is. -/
def dOf (o : Fin 1280) : Fin 64 := ⟨o.val % 64, by omega⟩
theorem pay2_at (V : IVec S100x128x20x64 8) (s : Fin 100) (o : Fin 1280) (b : Fin 128) :
    k0_pay2 V (ix3 s o b) = V (ix4 s b (hOf o) (dOf o)) := by
  pointwise [k0_pay2]
  rfl
theorem pay5_at (V : FVec Ideal S100x128x20x64 .bf16) (s : Fin 100) (o : Fin 1280) (b : Fin 128) :
    k0_pay5 (F := Ideal) V (ix3 s o b) = V (ix4 s b (hOf o) (dOf o)) := by
  pointwise [k0_pay5]
  rfl
theorem pay3_at (V : FVec Ideal S100x128x20x64 .f32) (M : FVec Ideal S100x128x20 .f32) (C : IVec S100x128x20 1) (s : Fin 100) (o : Fin 1280) (b : Fin 128) :
    k0_pay3 (F := Ideal) V M C (ix3 s o b) = code8 (Ideal.div (V (ix4 s b (hOf o) (dOf o))) (k0_pay1 (F := Ideal) M C (ix3 s b (hOf o)))) := by
  unfold k0_pay3
  generalize k0_pay1 (F := Ideal) M C = Y
  pointwise
  rfl
theorem pay4_at (M : FVec Ideal S100x128x20 .f32) (C : IVec S100x128x20 1) (h : Fin 20) (s : Fin 100) (b : Fin 128) :
    k0_pay4 (F := Ideal) M C (ix3 h s b) = k0_pay1 (F := Ideal) M C (ix3 s b h) := by
  unfold k0_pay4
  generalize k0_pay1 (F := Ideal) M C = Y
  pointwise

end Cert.QkvReferenceIdeal.Val

end
-- ==== Proof.QkvRefBlock.lean ====
/- What the reference of queries, keys and values stores, token by token, from the arrays it reads. -/
module

public import proofs.«01_k».proof.Proof.Gen.QkvReferenceIdeal.Frame
public import proofs.«01_k».proof.Proof.QkvRefPay
public import Idealize.ShloMosaic.Lib.Pipeline.ValueKit

@[expose] public section

set_option maxRecDepth 16384

noncomputable section

namespace Cert.QkvReferenceIdeal.Val

open Cert.QkvReferenceIdeal Cert.QkvReferenceIdeal.Gen Cert.Spec
open Idealize.ShloMosaic Idealize.ShloMosaic.TcCoe Idealize.ShloMosaic.Tactic
open Idealize.SL.Sem
open Idealize.ShloMosaic.Pipeline (Dat)

/-- Token `(s, b)` of the arrays that the reference reads. -/
def tokR (x0 : Vec Ideal S100x128x1280 .bf16) (x1 : Vec Ideal S6x128x1280 .f32) (x2 : Vec Ideal S1280x3840 .fp8e4m3) (x3 : Vec Ideal S1x1x3840 .f32) (x4 x5 : Vec Ideal S1x1x1280 .f32) (x6 : Vec Ideal S1x1x20x1 .f32) (s : Fin 100) (b : Fin 128) : QTok where
  x k := x0 (ix3 s b k)
  sc k := x1 (ix3 2 b k)
  sh k := x1 (ix3 4 b k)
  w j k := x2 (ix2 j k)
  ws k := x3 (ix3 0 0 k)
  qb k := x4 (ix3 0 0 k)
  vb k := x5 (ix3 0 0 k)
  mu h := x6 (ix4 0 0 h 0)

theorem ld2 {n0 n1 : ℕ} {e : EltTy} (x : (⟨2, ![n0, n1]⟩ : Shape).Idx → Elt Ideal e) (inb) :
    View.ld x (Rect.unit (s := ⟨2, ![n0, n1]⟩) ![0, 0] (⟨2, ![n0, n1]⟩ : Shape).size inb) = x :=
  View.ld_unit_zero (by funext a; fin_cases a <;> rfl) inb x
theorem ld3 {n0 n1 n2 : ℕ} {e : EltTy} (x : (⟨3, ![n0, n1, n2]⟩ : Shape).Idx → Elt Ideal e) (inb) :
    View.ld x (Rect.unit (s := ⟨3, ![n0, n1, n2]⟩) ![0, 0, 0] (⟨3, ![n0, n1, n2]⟩ : Shape).size inb) = x :=
  View.ld_unit_zero (by funext a; fin_cases a <;> rfl) inb x
theorem ld4 {n0 n1 n2 n3 : ℕ} {e : EltTy} (x : (⟨4, ![n0, n1, n2, n3]⟩ : Shape).Idx → Elt Ideal e) (inb) :
    View.ld x (Rect.unit (s := ⟨4, ![n0, n1, n2, n3]⟩) ![0, 0, 0, 0] (⟨4, ![n0, n1, n2, n3]⟩ : Shape).size inb) = x :=
  View.ld_unit_zero (by funext a; fin_cases a <;> rfl) inb x
theorem canon2 {n0 n1 : ℕ} {e : EltTy} (x : (⟨2, ![n0, n1]⟩ : Shape).Idx → Elt Ideal e) (inb) :
    View.canon (Val := Elt Ideal) [⟨Rect.unit (s := ⟨2, ![n0, n1]⟩) ![0, 0] (⟨2, ![n0, n1]⟩ : Shape).size inb, x⟩] = x :=
  View.canon_unit_zero (by funext a; fin_cases a <;> rfl) inb x
theorem canon3 {n0 n1 n2 : ℕ} {e : EltTy} (x : (⟨3, ![n0, n1, n2]⟩ : Shape).Idx → Elt Ideal e) (inb) :
    View.canon (Val := Elt Ideal) [⟨Rect.unit (s := ⟨3, ![n0, n1, n2]⟩) ![0, 0, 0] (⟨3, ![n0, n1, n2]⟩ : Shape).size inb, x⟩] = x :=
  View.canon_unit_zero (by funext a; fin_cases a <;> rfl) inb x

variable (x0 : Vec Ideal S100x128x1280 .bf16) (x1 : Vec Ideal S6x128x1280 .f32) (x2 : Vec Ideal S1280x3840 .fp8e4m3) (x3 : Vec Ideal S1x1x3840 .f32) (x4 x5 : Vec Ideal S1x1x1280 .f32) (x6 : Vec Ideal S1x1x20x1 .f32)

theorem v21 (s : Fin 100) (b : Fin 128) : k0_pay21 (F := Ideal) x0 x1 x2 x3 x4 x5 x6 (ix2 s b) = scale (tokR x0 x1 x2 x3 x4 x5 x6 s b).h1 := by
  unfold k0_pay21
  rw [ld3, ld3, pay7_at]
  exact congrArg scale (funext fun k => pay6_at x0 x1 s b k)
theorem c_at (s : Fin 100) (b : Fin 128) (k : Fin 1280) : k0_pay9 (F := Ideal) (k0_pay22 x0 x1 x2 x3 x4 x5 x6) (ix3 s b k) = code (tokR x0 x1 x2 x3 x4 x5 x6 s b).h1 k := by
  unfold k0_pay22
  rw [ld3, ld3, code_at]
  exact congrArg (fun f => code f k) (funext fun k => pay6_at x0 x1 s b k)
theorem v23 (h : Fin 20) (d : Fin 64) : k0_pay23 (F := Ideal) x0 x1 x2 x3 x4 x5 x6 (ix3 0 0 (QTok.at1 h d)) = x3 (ix3 0 0 (QTok.at3 2 h d)) := by
  unfold k0_pay23
  rw [ld3, pay13_at]
theorem v24 : k0_pay24 (F := Ideal) x0 x1 x2 x3 x4 x5 x6 = x5 := by
  unfold k0_pay24
  rw [ld3, pay14_eq]
theorem v25 (s : Fin 100) (b : Fin 128) (h : Fin 20) (d : Fin 64) :
    k0_pay25 (F := Ideal) x0 x1 x2 x3 x4 x5 x6 (ix3 s b (QTok.at1 h d)) = ∑ k, code (tokR x0 x1 x2 x3 x4 x5 x6 s b).h1 k * x2 (ix2 k (QTok.at3 2 h d)) := by
  unfold k0_pay25
  rw [pay15_at, ld2]
  simp only [c_at]
theorem q_at (s : Fin 100) (b : Fin 128) (h : Fin 20) (d : Fin 64) :
    k0_pay11 (F := Ideal) (k0_pay21 x0 x1 x2 x3 x4 x5 x6) (k0_pay22 x0 x1 x2 x3 x4 x5 x6) x2 x3 x4 (ix4 s b h d) = (tokR x0 x1 x2 x3 x4 x5 x6 s b).qv h d := by
  rw [pay11_at, v21]
  simp only [c_at]
  rfl
theorem k_at (s : Fin 100) (b : Fin 128) (h : Fin 20) (d : Fin 64) :
    k0_pay12 (F := Ideal) (k0_pay21 x0 x1 x2 x3 x4 x5 x6) (k0_pay22 x0 x1 x2 x3 x4 x5 x6) x2 x3 (ix4 s b h d) = (tokR x0 x1 x2 x3 x4 x5 x6 s b).kv h d := by
  rw [pay12_at, v21]
  simp only [c_at]
  rfl
theorem v_at (s : Fin 100) (b : Fin 128) (h : Fin 20) (d : Fin 64) :
    k0_pay16 (F := Ideal) (k0_pay21 x0 x1 x2 x3 x4 x5 x6) (k0_pay23 x0 x1 x2 x3 x4 x5 x6) (k0_pay24 x0 x1 x2 x3 x4 x5 x6) (k0_pay25 x0 x1 x2 x3 x4 x5 x6) (ix4 s b h d) = (tokR x0 x1 x2 x3 x4 x5 x6 s b).vv h d := by
  rw [pay16_at, v21, v23, v24, v25]
  rfl
theorem vs_at (s : Fin 100) (b : Fin 128) (h : Fin 20) : k0_pay1 (F := Ideal) (k0_pay26 x0 x1 x2 x3 x4 x5 x6) (k0_pay27 x0 x1 x2 x3 x4 x5 x6) (ix3 s b h) = (tokR x0 x1 x2 x3 x4 x5 x6 s b).vs h := by
  unfold k0_pay26 k0_pay27
  rw [pay1_at]
  exact congrArg scale8 (funext fun d => v_at x0 x1 x2 x3 x4 x5 x6 s b h d)
theorem out7_at (s : Fin 100) (b : Fin 128) (k : Fin 1280) : out0_7 (F := Ideal) x0 x1 x2 x3 x4 x5 x6 (ix3 s b k) = code (tokR x0 x1 x2 x3 x4 x5 x6 s b).h1 k := by
  unfold out0_7
  rw [canon3, c_at]
theorem out8_at (s : Fin 100) (b : Fin 128) : out0_8 (F := Ideal) x0 x1 x2 x3 x4 x5 x6 (ix2 s b) = scale (tokR x0 x1 x2 x3 x4 x5 x6 s b).h1 := by
  unfold out0_8
  rw [canon2, v21]
theorem out9_at (s : Fin 100) (o : Fin 1280) (b : Fin 128) : out0_9 (F := Ideal) x0 x1 x2 x3 x4 x5 x6 (ix3 s o b) = (tokR x0 x1 x2 x3 x4 x5 x6 s b).kc (hOf o) (dOf o) := by
  unfold out0_9
  rw [canon3, pay2_at, pay18_at, ld2, ld3]
  simp only [k_at]
  rfl
theorem out10_at (s : Fin 100) (o : Fin 1280) (b : Fin 128) : out0_10 (F := Ideal) x0 x1 x2 x3 x4 x5 x6 (ix3 s o b) = (tokR x0 x1 x2 x3 x4 x5 x6 s b).vc (hOf o) (dOf o) := by
  unfold out0_10
  rw [canon3, pay3_at, v_at, vs_at]
  rfl
theorem out11_at (h : Fin 20) (s : Fin 100) (b : Fin 128) : out0_11 (F := Ideal) x0 x1 x2 x3 x4 x5 x6 (ix3 h s b) = (tokR x0 x1 x2 x3 x4 x5 x6 s b).vs h := by
  unfold out0_11
  rw [canon3, pay4_at, vs_at]
theorem out12_at (s : Fin 100) (o : Fin 1280) (b : Fin 128) : out0_12 (F := Ideal) x0 x1 x2 x3 x4 x5 x6 (ix3 s o b) = (tokR x0 x1 x2 x3 x4 x5 x6 s b).q (hOf o) (dOf o) := by
  unfold out0_12
  rw [canon3, pay5_at, pay17_at, ld2, ld3, ld3, ld4]
  simp only [q_at]
  rfl

end Cert.QkvReferenceIdeal.Val

end
-- ==== Proof.QkvRefArray.lean ====
/- What the reference of queries, keys and values leaves in its result arrays, index by index, from the argument arrays. -/
module

public import proofs.«01_k».proof.Proof.QkvRefBlock
public import Idealize.ShloMosaic.Lib.Pipeline.ValueKit

@[expose] public section

set_option maxRecDepth 16384

noncomputable section

namespace Cert.QkvReferenceIdeal.Val

open Cert.QkvReferenceIdeal Cert.QkvReferenceIdeal.Gen Cert.Spec
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- Token `(s, b)` of the argument arrays. -/
def tok (c : Dev nD) (s : Fin 100) (b : Fin 128) : QTok :=
  argQTok (fun b s k => m ((c : Thread nD τ).loc main_arg0) (ix3 b s k)) (fun b s k => m ((c : Thread nD τ).loc main_arg1) (ix3 b s k)) (fun j k => m ((c : Thread nD τ).loc main_arg2) (ix2 j k)) (fun k => m ((c : Thread nD τ).loc main_arg3) (ix1 k))
    (fun k => m ((c : Thread nD τ).loc main_arg4) (ix1 k)) (fun k => m ((c : Thread nD τ).loc main_arg5) (ix1 k)) (fun h => mulFactor (m ((c : Thread nD τ).loc main_arg6) (ix1 h))) s b

/-- Every window is one whole array. -/
theorem idx : ∀ t : Fin cfg0.N, win0_0.index t = ![0, 0, 0] ∧ win0_1.index t = ![0, 0, 0] ∧ win0_2.index t = ![0, 0] ∧ win0_3.index t = ![0, 0, 0] ∧ win0_4.index t = ![0, 0, 0] ∧ win0_5.index t = ![0, 0, 0] ∧ win0_6.index t = ![0, 0, 0, 0] ∧ win0_7.index t = ![0, 0, 0] ∧ win0_8.index t = ![0, 0] ∧ win0_9.index t = ![0, 0, 0] ∧ win0_10.index t = ![0, 0, 0] ∧ win0_11.index t = ![0, 0, 0] ∧ win0_12.index t = ![0, 0, 0] :=
  (by decide +kernel : ∀ t : Fin grid0.N, _)

theorem read_0 (c : Dev nD) (t : Fin cfg0.N) (s : Fin 100) (b : Fin 128) (k : Fin 1280) : iblk m c 0 t (ix3 s b k) = m ((c : Thread nD τ).loc main_arg0) (ix3 b s k) := by
  have h := idx t
  blk_ext! [iblk, V, h]
theorem read_1 (c : Dev nD) (t : Fin cfg0.N) (r : Fin 6) (b : Fin 128) (k : Fin 1280) : iblk m c 1 t (ix3 r b k) = m ((c : Thread nD τ).loc main_arg1) (ix3 b r k) := by
  have h := idx t
  blk_ext! [iblk, V, h]
theorem read_2 (c : Dev nD) (t : Fin cfg0.N) (j : Fin 1280) (k : Fin 3840) : iblk m c 2 t (ix2 j k) = m ((c : Thread nD τ).loc main_arg2) (ix2 j k) := by
  have h := idx t
  blk_ext! [iblk, V, h]
theorem read_3 (c : Dev nD) (t : Fin cfg0.N) (k : Fin 3840) : iblk m c 3 t (ix3 0 0 k) = m ((c : Thread nD τ).loc main_arg3) (ix1 k) := by
  have h := idx t
  blk_ext! [iblk, V, h]
theorem read_4 (c : Dev nD) (t : Fin cfg0.N) (k : Fin 1280) : iblk m c 4 t (ix3 0 0 k) = m ((c : Thread nD τ).loc main_arg4) (ix1 k) := by
  have h := idx t
  blk_ext! [iblk, V, h]
theorem read_5 (c : Dev nD) (t : Fin cfg0.N) (k : Fin 1280) : iblk m c 5 t (ix3 0 0 k) = m ((c : Thread nD τ).loc main_arg5) (ix1 k) := by
  have h := idx t
  blk_ext! [iblk, V, h]
/-- The array of factors at a head. -/
theorem factors (c : Dev nD) (h' : Fin 20) : V m c main_v8 (ix4 0 0 h' 0) = mulFactor (m ((c : Thread nD τ).loc main_arg6) (ix1 h')) := by
  entry_read
  pointwise
  rfl
theorem read_6 (c : Dev nD) (t : Fin cfg0.N) (h' : Fin 20) : iblk m c 6 t (ix4 0 0 h' 0) = mulFactor (m ((c : Thread nD τ).loc main_arg6) (ix1 h')) := by
  have h := idx t
  refine Eq.trans ?_ (factors m c h')
  refine congrArg (V m c main_v8) ?_
  funext a
  fin_cases a <;> (apply Fin.ext; blk_simp [h]; try omega)
theorem tokR_eq (c : Dev nD) (t : Fin cfg0.N) (s : Fin 100) (b : Fin 128) : tokR (iblk m c 0 t) (iblk m c 1 t) (iblk m c 2 t) (iblk m c 3 t) (iblk m c 4 t) (iblk m c 5 t) (iblk m c 6 t) s b = tok m c s b := by
  unfold tokR tok argQTok
  simp only [read_0, read_1, read_2, read_3, read_4, read_5, read_6]

/-- The codes of the first layer norm, as an array. -/
def c1Arr (c : Dev nD) : Vec Ideal S100x128x1280 .fp8e4m3 := fun i => code (tok m c (i 0) (i 1)).h1 (i 2)
theorem c1_out (c : Dev nD) (t : Fin cfg0.N) (s : Fin 100) (b : Fin 128) (k : Fin 1280) : out0_7 (iblk m c 0 t) (iblk m c 1 t) (iblk m c 2 t) (iblk m c 3 t) (iblk m c 4 t) (iblk m c 5 t) (iblk m c 6 t) (ix3 s b k) = code (tok m c s b).h1 k := by
  rw [out7_at, tokR_eq]
theorem c1_emb (c : Dev nD) (t : Fin cfg0.N) (y j : S100x128x1280.Idx) (h0 : (j 0).val = (y 0).val) (h1 : (j 1).val = (y 1).val) (h2 : (j 2).val = (y 2).val) :
    out0_7 (iblk m c 0 t) (iblk m c 1 t) (iblk m c 2 t) (iblk m c 3 t) (iblk m c 4 t) (iblk m c 5 t) (iblk m c 6 t) y = c1Arr m c j := by
  have e0 : (j 0 : Fin 100) = y 0 := Fin.ext h0
  have e1 : (j 1 : Fin 128) = y 1 := Fin.ext h1
  have e2 : (j 2 : Fin 1280) = y 2 := Fin.ext h2
  refine (congrArg _ (eq_ix3 y)).trans ((c1_out m c t _ _ _).trans ?_)
  unfold c1Arr
  rw [e0, e1, e2]
/-- The whole array after the run. -/
theorem c1_array (c : Dev nD) : (dats m 0 c).arrAt 7 cfg0.N = c1Arr m c := by
  refine Dat.arrAt_eq_of_covers _ 7 _ (by decide +kernel) fun t hf y => ?_
  have hi := idx t
  blk_simp
  rw [after0_7]
  refine c1_emb m c t y _ ?_ ?_ ?_ <;> (blk_simp [hi]; try omega)
/-- The scales of the first layer norm, as an array. -/
def s1Arr (c : Dev nD) : Vec Ideal S100x128 .f32 := fun i => scale (tok m c (i 0) (i 1)).h1
theorem s1_out (c : Dev nD) (t : Fin cfg0.N) (s : Fin 100) (b : Fin 128) : out0_8 (iblk m c 0 t) (iblk m c 1 t) (iblk m c 2 t) (iblk m c 3 t) (iblk m c 4 t) (iblk m c 5 t) (iblk m c 6 t) (ix2 s b) = scale (tok m c s b).h1 := by
  rw [out8_at, tokR_eq]
theorem s1_emb (c : Dev nD) (t : Fin cfg0.N) (y j : S100x128.Idx) (h0 : (j 0).val = (y 0).val) (h1 : (j 1).val = (y 1).val) :
    out0_8 (iblk m c 0 t) (iblk m c 1 t) (iblk m c 2 t) (iblk m c 3 t) (iblk m c 4 t) (iblk m c 5 t) (iblk m c 6 t) y = s1Arr m c j := by
  have e0 : (j 0 : Fin 100) = y 0 := Fin.ext h0
  have e1 : (j 1 : Fin 128) = y 1 := Fin.ext h1
  refine (congrArg _ (eq_ix2 y)).trans ((s1_out m c t _ _).trans ?_)
  unfold s1Arr
  rw [e0, e1]
/-- The whole array after the run. -/
theorem s1_array (c : Dev nD) : (dats m 0 c).arrAt 8 cfg0.N = s1Arr m c := by
  refine Dat.arrAt_eq_of_covers _ 8 _ (by decide +kernel) fun t hf y => ?_
  have hi := idx t
  blk_simp
  rw [after0_8]
  refine s1_emb m c t y _ ?_ ?_ <;> (blk_simp [hi]; try omega)
/-- The codes of the keys, as an array. -/
def kArr (c : Dev nD) : Vec Ideal S100x1280x128 .i8 := fun i => (tok m c (i 0) (i 2)).kc (hOf (i 1)) (dOf (i 1))
theorem k_out (c : Dev nD) (t : Fin cfg0.N) (s : Fin 100) (o : Fin 1280) (b : Fin 128) : out0_9 (iblk m c 0 t) (iblk m c 1 t) (iblk m c 2 t) (iblk m c 3 t) (iblk m c 4 t) (iblk m c 5 t) (iblk m c 6 t) (ix3 s o b) = (tok m c s b).kc (hOf o) (dOf o) := by
  rw [out9_at, tokR_eq]
theorem k_emb (c : Dev nD) (t : Fin cfg0.N) (y j : S100x1280x128.Idx) (h0 : (j 0).val = (y 0).val) (h1 : (j 1).val = (y 1).val) (h2 : (j 2).val = (y 2).val) :
    out0_9 (iblk m c 0 t) (iblk m c 1 t) (iblk m c 2 t) (iblk m c 3 t) (iblk m c 4 t) (iblk m c 5 t) (iblk m c 6 t) y = kArr m c j := by
  have e0 : (j 0 : Fin 100) = y 0 := Fin.ext h0
  have e1 : (j 1 : Fin 1280) = y 1 := Fin.ext h1
  have e2 : (j 2 : Fin 128) = y 2 := Fin.ext h2
  refine (congrArg _ (eq_ix3 y)).trans ((k_out m c t _ _ _).trans ?_)
  unfold kArr
  rw [e0, e1, e2]
/-- The whole array after the run. -/
theorem k_array (c : Dev nD) : (dats m 0 c).arrAt 9 cfg0.N = kArr m c := by
  refine Dat.arrAt_eq_of_covers _ 9 _ (by decide +kernel) fun t hf y => ?_
  have hi := idx t
  blk_simp
  rw [after0_9]
  refine k_emb m c t y _ ?_ ?_ ?_ <;> (blk_simp [hi]; try omega)
/-- The codes of the values, as an array. -/
def vArr (c : Dev nD) : Vec Ideal S100x1280x128 .i8 := fun i => (tok m c (i 0) (i 2)).vc (hOf (i 1)) (dOf (i 1))
theorem v_out (c : Dev nD) (t : Fin cfg0.N) (s : Fin 100) (o : Fin 1280) (b : Fin 128) : out0_10 (iblk m c 0 t) (iblk m c 1 t) (iblk m c 2 t) (iblk m c 3 t) (iblk m c 4 t) (iblk m c 5 t) (iblk m c 6 t) (ix3 s o b) = (tok m c s b).vc (hOf o) (dOf o) := by
  rw [out10_at, tokR_eq]
theorem v_emb (c : Dev nD) (t : Fin cfg0.N) (y j : S100x1280x128.Idx) (h0 : (j 0).val = (y 0).val) (h1 : (j 1).val = (y 1).val) (h2 : (j 2).val = (y 2).val) :
    out0_10 (iblk m c 0 t) (iblk m c 1 t) (iblk m c 2 t) (iblk m c 3 t) (iblk m c 4 t) (iblk m c 5 t) (iblk m c 6 t) y = vArr m c j := by
  have e0 : (j 0 : Fin 100) = y 0 := Fin.ext h0
  have e1 : (j 1 : Fin 1280) = y 1 := Fin.ext h1
  have e2 : (j 2 : Fin 128) = y 2 := Fin.ext h2
  refine (congrArg _ (eq_ix3 y)).trans ((v_out m c t _ _ _).trans ?_)
  unfold vArr
  rw [e0, e1, e2]
/-- The whole array after the run. -/
theorem v_array (c : Dev nD) : (dats m 0 c).arrAt 10 cfg0.N = vArr m c := by
  refine Dat.arrAt_eq_of_covers _ 10 _ (by decide +kernel) fun t hf y => ?_
  have hi := idx t
  blk_simp
  rw [after0_10]
  refine v_emb m c t y _ ?_ ?_ ?_ <;> (blk_simp [hi]; try omega)
/-- The scales of the values, as an array. -/
def vsArr (c : Dev nD) : Vec Ideal S20x100x128 .f32 := fun i => (tok m c (i 1) (i 2)).vs (i 0)
theorem vs_out (c : Dev nD) (t : Fin cfg0.N) (h : Fin 20) (s : Fin 100) (b : Fin 128) : out0_11 (iblk m c 0 t) (iblk m c 1 t) (iblk m c 2 t) (iblk m c 3 t) (iblk m c 4 t) (iblk m c 5 t) (iblk m c 6 t) (ix3 h s b) = (tok m c s b).vs h := by
  rw [out11_at, tokR_eq]
theorem vs_emb (c : Dev nD) (t : Fin cfg0.N) (y j : S20x100x128.Idx) (h0 : (j 0).val = (y 0).val) (h1 : (j 1).val = (y 1).val) (h2 : (j 2).val = (y 2).val) :
    out0_11 (iblk m c 0 t) (iblk m c 1 t) (iblk m c 2 t) (iblk m c 3 t) (iblk m c 4 t) (iblk m c 5 t) (iblk m c 6 t) y = vsArr m c j := by
  have e0 : (j 0 : Fin 20) = y 0 := Fin.ext h0
  have e1 : (j 1 : Fin 100) = y 1 := Fin.ext h1
  have e2 : (j 2 : Fin 128) = y 2 := Fin.ext h2
  refine (congrArg _ (eq_ix3 y)).trans ((vs_out m c t _ _ _).trans ?_)
  unfold vsArr
  rw [e0, e1, e2]
/-- The whole array after the run. -/
theorem vs_array (c : Dev nD) : (dats m 0 c).arrAt 11 cfg0.N = vsArr m c := by
  refine Dat.arrAt_eq_of_covers _ 11 _ (by decide +kernel) fun t hf y => ?_
  have hi := idx t
  blk_simp
  rw [after0_11]
  refine vs_emb m c t y _ ?_ ?_ ?_ <;> (blk_simp [hi]; try omega)
/-- The queries, as an array. -/
def qArr (c : Dev nD) : Vec Ideal S100x1280x128 .bf16 := fun i => (tok m c (i 0) (i 2)).q (hOf (i 1)) (dOf (i 1))
theorem q_out (c : Dev nD) (t : Fin cfg0.N) (s : Fin 100) (o : Fin 1280) (b : Fin 128) : out0_12 (iblk m c 0 t) (iblk m c 1 t) (iblk m c 2 t) (iblk m c 3 t) (iblk m c 4 t) (iblk m c 5 t) (iblk m c 6 t) (ix3 s o b) = (tok m c s b).q (hOf o) (dOf o) := by
  rw [out12_at, tokR_eq]
theorem q_emb (c : Dev nD) (t : Fin cfg0.N) (y j : S100x1280x128.Idx) (h0 : (j 0).val = (y 0).val) (h1 : (j 1).val = (y 1).val) (h2 : (j 2).val = (y 2).val) :
    out0_12 (iblk m c 0 t) (iblk m c 1 t) (iblk m c 2 t) (iblk m c 3 t) (iblk m c 4 t) (iblk m c 5 t) (iblk m c 6 t) y = qArr m c j := by
  have e0 : (j 0 : Fin 100) = y 0 := Fin.ext h0
  have e1 : (j 1 : Fin 1280) = y 1 := Fin.ext h1
  have e2 : (j 2 : Fin 128) = y 2 := Fin.ext h2
  refine (congrArg _ (eq_ix3 y)).trans ((q_out m c t _ _ _).trans ?_)
  unfold qArr
  rw [e0, e1, e2]
/-- The whole array after the run. -/
theorem q_array (c : Dev nD) : (dats m 0 c).arrAt 12 cfg0.N = qArr m c := by
  refine Dat.arrAt_eq_of_covers _ 12 _ (by decide +kernel) fun t hf y => ?_
  have hi := idx t
  blk_simp
  rw [after0_12]
  refine q_emb m c t y _ ?_ ?_ ?_ <;> (blk_simp [hi]; try omega)

end Cert.QkvReferenceIdeal.Val

end
-- ==== Proof.QkvEquation.lean ====
/- The equation of the call that makes queries, keys and values: from equal arguments the kernel and the reference leave equal
   result arrays. -/
module

public import proofs.«01_k».proof.Defs
public import proofs.«01_k».proof.Proof.QkvArray
public import proofs.«01_k».proof.Proof.QkvRefArray
public import proofs.«01_k».proof.Proof.Gen.Qkv
public import proofs.«01_k».proof.Proof.Gen.QkvIdeal
public import proofs.«01_k».proof.Proof.Gen.QkvReferenceIdeal

@[expose] public section

set_option maxRecDepth 16384

noncomputable section

namespace Cert.Proof.Qkv

open Idealize.ShloMosaic Idealize.ShloMosaic.TcCoe Idealize.SL.Sem Cert.Spec

/-- The token of equal argument arrays is the same token. -/
theorem argQTok_congr {x x' : Fin 128 → Fin 100 → Fin 1280 → EReal} {ada ada' : Fin 128 → Fin 6 → Fin 1280 → EReal} {w w' : Fin 1280 → Fin 3840 → EReal} {ws ws' : Fin 3840 → EReal} {qb qb' : Fin 1280 → EReal} {vb vb' : Fin 1280 → EReal} {mu mu' : Fin 20 → EReal}
    (h0 : ∀ b s k, x b s k = x' b s k) (h1 : ∀ b s k, ada b s k = ada' b s k) (h2 : ∀ j k, w j k = w' j k) (h3 : ∀ k, ws k = ws' k) (h4 : ∀ k, qb k = qb' k) (h5 : ∀ k, vb k = vb' k) (h6 : ∀ k, mu k = mu' k)
    (s : Fin 100) (b : Fin 128) :
    argQTok x ada w ws qb vb mu s b = argQTok x' ada' w' ws' qb' vb' mu' s b := by
  obtain rfl : x = x' := funext fun b => funext fun s => funext fun k => h0 b s k
  obtain rfl : ada = ada' := funext fun b => funext fun s => funext fun k => h1 b s k
  obtain rfl : w = w' := funext fun j => funext fun k => h2 j k
  obtain rfl : ws = ws' := funext fun k => h3 k
  obtain rfl : qb = qb' := funext fun k => h4 k
  obtain rfl : vb = vb' := funext fun k => h5 k
  obtain rfl : mu = mu' := funext fun k => h6 k
  rfl

end Cert.Proof.Qkv

namespace Cert.QkvIdeal.Run

open Cert.QkvIdeal Cert.QkvIdeal.Gen
open Idealize.ShloMosaic Idealize.ShloMosaic.TcCoe Idealize.SL.Sem

variable (m : (ℓ : Loc nD τ sig) → Buf (Elt Ideal) ℓ) (ρ : Dev nD → PrngReg)

/-- The kernel ends with its six arrays of results and with its arguments unchanged. -/
theorem value : θ_run defs (onTc (τ := τ) (main (F := Ideal))) ⟨m, fun _ => 0, ρ⟩ (fun r => ∀ c : Dev nD,
    r.2.mem ((c.tc : Thread nD τ).loc main_v12_0) = c1Arr m c
    ∧ r.2.mem ((c.tc : Thread nD τ).loc main_v12_1) = s1Arr m c
    ∧ r.2.mem ((c.tc : Thread nD τ).loc main_v12_2) = kArr m c
    ∧ r.2.mem ((c.tc : Thread nD τ).loc main_v12_3) = vArr m c
    ∧ r.2.mem ((c.tc : Thread nD τ).loc main_v12_4) = vsArr m c
    ∧ r.2.mem ((c.tc : Thread nD τ).loc main_v12_5) = qArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c => ⟨c1_array m r h.2.1 c, s1_array m r h.2.1 c, k_array m r h.2.1 c, v_array m r h.2.1 c, vs_array m r h.2.1 c, q_array m r h.2.1 c, h.1 c⟩)
    (θ_run_and (unchanged m ρ) (run_main_quiescent m ρ))

end Cert.QkvIdeal.Run

namespace Cert.QkvReferenceIdeal.Val

open Cert.QkvReferenceIdeal Cert.QkvReferenceIdeal.Gen
open Idealize.ShloMosaic Idealize.ShloMosaic.TcCoe Idealize.SL.Sem

variable (m : (ℓ : Loc nD τ sig) → Buf (Elt Ideal) ℓ) (ρ : Dev nD → PrngReg)

/-- The reference ends with its six arrays of results and with its arguments unchanged. -/
theorem value : θ_run defs (onTc (τ := τ) (main (F := Ideal))) ⟨m, fun _ => 0, ρ⟩ (fun r => ∀ c : Dev nD,
    r.2.mem ((c.tc : Thread nD τ).loc main_v9_0) = c1Arr m c
    ∧ r.2.mem ((c.tc : Thread nD τ).loc main_v9_1) = s1Arr m c
    ∧ r.2.mem ((c.tc : Thread nD τ).loc main_v9_2) = kArr m c
    ∧ r.2.mem ((c.tc : Thread nD τ).loc main_v9_3) = vArr m c
    ∧ r.2.mem ((c.tc : Thread nD τ).loc main_v9_4) = vsArr m c
    ∧ r.2.mem ((c.tc : Thread nD τ).loc main_v9_5) = qArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c => ⟨((h.2 c).1 7).trans (c1_array m c), ((h.2 c).1 8).trans (s1_array m c), ((h.2 c).1 9).trans (k_array m c), ((h.2 c).1 10).trans (v_array m c), ((h.2 c).1 11).trans (vs_array m c), ((h.2 c).1 12).trans (q_array m c), h.1 c⟩)
    (θ_run_and (unchanged m ρ) (run_main m ρ))

end Cert.QkvReferenceIdeal.Val

namespace Cert.Proof.Qkv

open Idealize.ShloMosaic Idealize.ShloMosaic.TcCoe Idealize.SL.Sem Cert.Spec

variable (m : (ℓ : Loc Cert.QkvIdeal.nD Cert.QkvIdeal.τ Cert.QkvIdeal.sig) → Buf (Elt Ideal) ℓ)
  (m' : (ℓ : Loc Cert.QkvReferenceIdeal.nD Cert.QkvReferenceIdeal.τ Cert.QkvReferenceIdeal.sig) → Buf (Elt Ideal) ℓ)

/-- The two programs are given the same argument arrays on core `c`. -/
def Agree (c : Dev Cert.QkvIdeal.nD) : Prop :=
  m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
  ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
  ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
  ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
  ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
  ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
  ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)

/-- From equal arguments, token `(s, b)` of the reference is token `(s, b)` of the kernel. -/
theorem tok_eq (c : Dev Cert.QkvIdeal.nD) (h : Agree m m' c) (s : Fin 100) (b : Fin 128) :
    Cert.QkvReferenceIdeal.Val.tok m' c s b = Cert.QkvIdeal.Run.tok m c s b := by
  obtain ⟨h0, h1, h2, h3, h4, h5, h6⟩ := h
  unfold Cert.QkvReferenceIdeal.Val.tok Cert.QkvIdeal.Run.tok
  exact argQTok_congr (fun b s k => congrFun h0 (ix3 b s k)) (fun b s k => congrFun h1 (ix3 b s k)) (fun j k => congrFun h2 (ix2 j k)) (fun k => congrFun h3 (ix1 k)) (fun k => congrFun h4 (ix1 k)) (fun k => congrFun h5 (ix1 k)) (fun k => congrArg mulFactor (congrFun h6 (ix1 k))) s b

theorem c1_eq (c : Dev Cert.QkvIdeal.nD) (h : Agree m m' c) : Cert.QkvReferenceIdeal.Val.c1Arr m' c = Cert.QkvIdeal.Run.c1Arr m c := by
  funext i
  unfold Cert.QkvReferenceIdeal.Val.c1Arr Cert.QkvIdeal.Run.c1Arr
  exact congrArg (fun T : QTok => code T.h1 (i 2)) (tok_eq m m' c h (i 0) (i 1))
theorem s1_eq (c : Dev Cert.QkvIdeal.nD) (h : Agree m m' c) : Cert.QkvReferenceIdeal.Val.s1Arr m' c = Cert.QkvIdeal.Run.s1Arr m c := by
  funext i
  unfold Cert.QkvReferenceIdeal.Val.s1Arr Cert.QkvIdeal.Run.s1Arr
  exact congrArg (fun T : QTok => scale T.h1) (tok_eq m m' c h (i 0) (i 1))
theorem k_eq (c : Dev Cert.QkvIdeal.nD) (h : Agree m m' c) : Cert.QkvReferenceIdeal.Val.kArr m' c = Cert.QkvIdeal.Run.kArr m c := by
  funext i
  unfold Cert.QkvReferenceIdeal.Val.kArr Cert.QkvIdeal.Run.kArr
  exact congrArg (fun T : QTok => T.kc (Cert.QkvIdeal.Run.hOf (i 1)) (Cert.QkvIdeal.Run.dOf (i 1))) (tok_eq m m' c h (i 0) (i 2))
theorem v_eq (c : Dev Cert.QkvIdeal.nD) (h : Agree m m' c) : Cert.QkvReferenceIdeal.Val.vArr m' c = Cert.QkvIdeal.Run.vArr m c := by
  funext i
  unfold Cert.QkvReferenceIdeal.Val.vArr Cert.QkvIdeal.Run.vArr
  exact congrArg (fun T : QTok => T.vc (Cert.QkvIdeal.Run.hOf (i 1)) (Cert.QkvIdeal.Run.dOf (i 1))) (tok_eq m m' c h (i 0) (i 2))
theorem vs_eq (c : Dev Cert.QkvIdeal.nD) (h : Agree m m' c) : Cert.QkvReferenceIdeal.Val.vsArr m' c = Cert.QkvIdeal.Run.vsArr m c := by
  funext i
  unfold Cert.QkvReferenceIdeal.Val.vsArr Cert.QkvIdeal.Run.vsArr
  exact congrArg (fun T : QTok => T.vs (i 0)) (tok_eq m m' c h (i 1) (i 2))
theorem q_eq (c : Dev Cert.QkvIdeal.nD) (h : Agree m m' c) : Cert.QkvReferenceIdeal.Val.qArr m' c = Cert.QkvIdeal.Run.qArr m c := by
  funext i
  unfold Cert.QkvReferenceIdeal.Val.qArr Cert.QkvIdeal.Run.qArr
  exact congrArg (fun T : QTok => T.q (Cert.QkvIdeal.Run.hOf (i 1)) (Cert.QkvIdeal.Run.dOf (i 1))) (tok_eq m m' c h (i 0) (i 2))

/-- The kernel and the reference compute the same six arrays over the extended reals. -/
theorem algebraic : letI := Cert.QkvIdeal.Gen.facts; letI := Cert.QkvReferenceIdeal.Gen.facts; Cert.algebraic_QkvIdeal_QkvReferenceIdeal := by
  intro m g m' g' _ hag
  refine ⟨Cert.QkvIdeal.Run.c1Arr m, Cert.QkvIdeal.Run.s1Arr m, Cert.QkvIdeal.Run.kArr m, Cert.QkvIdeal.Run.vArr m, Cert.QkvIdeal.Run.vsArr m, Cert.QkvIdeal.Run.qArr m, Cert.QkvIdeal.Run.value m g, ?_⟩
  refine (θ_run _ _ _).mono (fun r h c => ?_) (Cert.QkvReferenceIdeal.Val.value m' g')
  obtain ⟨e0, e1, e2, e3, e4, e5, hk⟩ := h c
  exact ⟨e0.trans (c1_eq m m' c (hag c)), e1.trans (s1_eq m m' c (hag c)), e2.trans (k_eq m m' c (hag c)), e3.trans (v_eq m m' c (hag c)), e4.trans (vs_eq m m' c (hag c)), e5.trans (q_eq m m' c (hag c)), hk⟩

end Cert.Proof.Qkv

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal.Frame
public import proofs.«01_k».proof.Proof.BitsFrame
public import proofs.«01_k».proof.Proof.MlpFrame
public import proofs.«01_k».proof.Proof.Equation
public import proofs.«01_k».proof.Proof.QkvBitsFrame
public import proofs.«01_k».proof.Proof.QkvFrame
public import proofs.«01_k».proof.Proof.QkvEquation
public import Idealize.ShloMosaic.Adequacy
public import Idealize.ShloMosaic.Init

@[expose] public section

noncomputable section

namespace Cert.Proof

open Idealize.ShloMosaic Idealize.SL.Sem

/-- Everything that is claimed. -/
theorem claim : Cert.Claim :=
  ⟨Cert.Mlp.Gen.facts, Cert.MlpIdeal.Gen.facts, Cert.MlpReferenceIdeal.Gen.facts,
    Cert.Qkv.Gen.facts, Cert.QkvIdeal.Gen.facts, Cert.QkvReferenceIdeal.Gen.facts,
    fun m ρ _ => Cert.Mlp.Run.frame m ρ, fun m ρ _ => Cert.MlpIdeal.Run.frame m ρ, fun m ρ _ => Cert.MlpReferenceIdeal.Gen.frame m ρ,
    fun m ρ _ => Cert.Qkv.Run.frame m ρ, fun m ρ _ => Cert.QkvIdeal.Run.frame m ρ, fun m ρ _ => Cert.QkvReferenceIdeal.Gen.frame m ρ,
    trivial, algebraic, trivial, Qkv.algebraic⟩

end Cert.Proof

end
